-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v302) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S4x8192x512 : Shape := ⟨3, ![4, 8192, 512]⟩
abbrev S1x8x257 : Shape := ⟨3, ![1, 8, 257]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S4x8192x512 .bf16) (main_arg1 : FVec F S4x8192x512 .f32) (main_arg2 : FVec F S4x8192x512 .f32) (main_arg3 : FVec F S1x8x257 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := Host.absf main_arg1
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_c_1 : IVec S_ 1 := constantI S_ 1 1#1
  let main_v8 : IVec S_ 1 := (fun x v => Host.reduce IntOp.andi x v reducesTo_S4x8192x512_S_d0_1_2 h_S_) main_v7 main_c_1
  let main_v9 : IVec S_ 1 := andi main_v4 main_v8
  let main_v10 : FVec F S1x8x257 .f32 := Host.absf main_arg3
  let main_cst_2 : FVec F S_ .f32 := constant S_ .f32 0x7F800000#32
  let main_v11 : FVec F S1x8x257 .f32 := broadcastInDim S1x8x257 ![] bcast_S_S1x8x257 main_cst_2
  let main_v12 : IVec S1x8x257 1 := cmpf .olt main_v10 main_v11
  let main_c_3 : IVec S_ 1 := constantI S_ 1 1#1
  let main_v13 : IVec S_ 1 := (fun x v => Host.reduce IntOp.andi x v reducesTo_S1x8x257_S_d0_1_2 h_S_) main_v12 main_c_3
  let main_v14 : IVec S_ 1 := andi main_v9 main_v13
  main_v14
-- ==== Pre_finite2.lean ====
abbrev S4x8192x1024 : Shape := ⟨3, ![4, 8192, 1024]⟩
abbrev S1x1024 : Shape := ⟨2, ![1, 1024]⟩
abbrev S1x1024x2560 : Shape := ⟨3, ![1, 1024, 2560]⟩
abbrev S1x64 : Shape := ⟨2, ![1, 64]⟩
abbrev S1x1024x1024 : Shape := ⟨3, ![1, 1024, 1024]⟩
abbrev S_ : Shape := ⟨0, ![]⟩

class Facts : Prop where
  slices_S1x1024x2560_S1x1024x1024_0_0_0 : S1x1024x2560.Slices ![0, 0, 0] S1x1024x1024
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4x8192x1024 .f32) (main_arg1 : FVec F S1x1024 .f32) (main_arg2 : FVec F S1x1024x2560 .f32) (main_arg3 : FVec F S1x64 .f32) (main_arg4 : FVec F S1x64 .f32) : IVec S_ 1 :=
  let main_v0 : FVec F S1x1024x1024 .f32 := (extractStridedSlice S1x1024x1024 ![0, 0, 0] · slices_S1x1024x2560_S1x1024x1024_0_0_0) main_arg2
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v8 main_v4
  main_v9
-- ==== Kernel.lean ====
abbrev S4x8192x512 : Shape := ⟨3, ![4, 8192, 512]⟩
abbrev S1x8x257 : Shape := ⟨3, ![1, 8, 257]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S8x257 : Shape := ⟨2, ![8, 257]⟩
abbrev S256x768x1 : Shape := ⟨3, ![256, 768, 1]⟩
abbrev S8x256x768 : Shape := ⟨3, ![8, 256, 768]⟩
abbrev S1x256x768 : Shape := ⟨3, ![1, 256, 768]⟩
abbrev S1x256x512 : Shape := ⟨3, ![1, 256, 512]⟩
abbrev S256x128 : Shape := ⟨2, ![256, 128]⟩
abbrev S1x256x128 : Shape := ⟨3, ![1, 256, 128]⟩
abbrev S1x256x256 : Shape := ⟨3, ![1, 256, 256]⟩
abbrev S256x256 : Shape := ⟨2, ![256, 256]⟩

abbrev nBuf : Space → Nat
  | .hbm => 98
  | .vmem => 17
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x512, .f32⟩
  | .hbm, ⟨3, _⟩ => ⟨S1x8x257, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S_, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S256x1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i1⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S768, .i32⟩
  | .hbm, ⟨28, _⟩ => ⟨S1x768, .i32⟩
  | .hbm, ⟨29, _⟩ => ⟨S_, .i32⟩
  | .hbm, ⟨30, _⟩ => ⟨S_, .i32⟩
  | .hbm, ⟨31, _⟩ => ⟨S1x768, .i32⟩
  | .hbm, ⟨32, _⟩ => ⟨S1x768, .i32⟩
  | .hbm, ⟨33, _⟩ => ⟨S1x768, .i32⟩
  | .hbm, ⟨34, _⟩ => ⟨S_, .i32⟩
  | .hbm, ⟨35, _⟩ => ⟨S1x768, .i32⟩
  | .hbm, ⟨36, _⟩ => ⟨S1x768, .i1⟩
  | .hbm, ⟨37, _⟩ => ⟨S1x768, .i32⟩
  | .hbm, ⟨38, _⟩ => ⟨S1x768, .i32⟩
  | .hbm, ⟨39, _⟩ => ⟨S_, .i32⟩
  | .hbm, ⟨40, _⟩ => ⟨S1x768, .i32⟩
  | .hbm, ⟨41, _⟩ => ⟨S1x768, .i1⟩
  | .hbm, ⟨42, _⟩ => ⟨S1x768, .i1⟩
  | .hbm, ⟨43, _⟩ => ⟨S_, .i32⟩
  | .hbm, ⟨44, _⟩ => ⟨S1x768, .i32⟩
  | .hbm, ⟨45, _⟩ => ⟨S1x768, .i32⟩
  | .hbm, ⟨46, _⟩ => ⟨S1x768, .i32⟩
  | .hbm, ⟨47, _⟩ => ⟨S256x768, .i32⟩
  | .hbm, ⟨48, _⟩ => ⟨S256x768, .i32⟩
  | .hbm, ⟨49, _⟩ => ⟨S256x768, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x768, .i32⟩
  | .hbm, ⟨54, _⟩ => ⟨S256x768, .i32⟩
  | .hbm, ⟨55, _⟩ => ⟨S256x768, .i1⟩
  | .hbm, ⟨56, _⟩ => ⟨S256x768, .i1⟩
  | .hbm, ⟨57, _⟩ => ⟨S_, .f32⟩
  | .hbm, ⟨58, _⟩ => ⟨S_, .f32⟩
  | .hbm, ⟨59, _⟩ => ⟨S256x768, .f32⟩
  | .hbm, ⟨60, _⟩ => ⟨S256x768, .f32⟩
  | .hbm, ⟨61, _⟩ => ⟨S256x768, .f32⟩
  | .hbm, ⟨62, _⟩ => ⟨S256x768, .f32⟩
  | .hbm, ⟨63, _⟩ => ⟨S8x257, .f32⟩
  | .hbm, ⟨64, _⟩ => ⟨S256, .i32⟩
  | .hbm, ⟨65, _⟩ => ⟨S256x1, .i32⟩
  | .hbm, ⟨66, _⟩ => ⟨S_, .i32⟩
  | .hbm, ⟨67, _⟩ => ⟨S256x1, .i32⟩
  | .hbm, ⟨68, _⟩ => ⟨S256x1, .i32⟩
  | .hbm, ⟨69, _⟩ => ⟨S768, .i32⟩
  | .hbm, ⟨70, _⟩ => ⟨S1x768, .i32⟩
  | .hbm, ⟨71, _⟩ => ⟨S256x768, .i32⟩
  | .hbm, ⟨72, _⟩ => ⟨S256x768, .i32⟩
  | .hbm, ⟨73, _⟩ => ⟨S256x768, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S256x768, .i32⟩
  | .hbm, ⟨78, _⟩ => ⟨S256x768, .i32⟩
  | .hbm, ⟨79, _⟩ => ⟨S_, .i32⟩
  | .hbm, ⟨80, _⟩ => ⟨S256x768, .i32⟩
  | .hbm, ⟨81, _⟩ => ⟨S256x768, .i32⟩
  | .hbm, ⟨82, _⟩ => ⟨S_, .i32⟩
  | .hbm, ⟨83, _⟩ => ⟨S256x768, .i32⟩
  | .hbm, ⟨84, _⟩ => ⟨S256x768, .i32⟩
  | .hbm, ⟨85, _⟩ => ⟨S_, .i32⟩
  | .hbm, ⟨86, _⟩ => ⟨S256x768, .i32⟩
  | .hbm, ⟨87, _⟩ => ⟨S256x768, .i1⟩
  | .hbm, ⟨88, _⟩ => ⟨S_, .i32⟩
  | .hbm, ⟨89, _⟩ => ⟨S256x768, .i32⟩
  | .hbm, ⟨90, _⟩ => ⟨S256x768, .i32⟩
  | .hbm, ⟨91, _⟩ => ⟨S256x768, .i32⟩
  | .hbm, ⟨92, _⟩ => ⟨S256x768x1, .i32⟩
  | .hbm, ⟨93, _⟩ => ⟨S8x256x768, .f32⟩
  | .hbm, ⟨94, _⟩ => ⟨S1x256x768, .f32⟩
  | .hbm, ⟨95, _⟩ => ⟨S8x256x768, .f32⟩
  | .hbm, ⟨96, _⟩ => ⟨S8x256x768, .f32⟩
  | .hbm, ⟨97, _⟩ => ⟨S4x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S8x256x768, .f32⟩
  | .local _ .vmem, ⟨15, _⟩ => ⟨S1x256x512, .bf16⟩
  | .local _ .vmem, ⟨16, _⟩ => ⟨S1x256x512, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst : Ref sig .tc := ⟨.hbm, 57, rfl⟩
abbrev main_cst_3 : Ref sig .tc := ⟨.hbm, 58, rfl⟩
abbrev main_call2_v0 : Ref sig .tc := ⟨.hbm, 59, rfl⟩
abbrev main_call2_v1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_c_4 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_c_5 : Ref sig .tc := ⟨.hbm, 74, rfl⟩
abbrev main_c_6 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v29 : Ref sig .tc := ⟨.hbm, 81, rfl⟩
abbrev main_c_7 : Ref sig .tc := ⟨.hbm, 82, rfl⟩
abbrev main_v30 : Ref sig .tc := ⟨.hbm, 83, rfl⟩
abbrev main_v31 : Ref sig .tc := ⟨.hbm, 84, rfl⟩
abbrev main_c_8 : Ref sig .tc := ⟨.hbm, 85, rfl⟩
abbrev main_v32 : Ref sig .tc := ⟨.hbm, 86, rfl⟩
abbrev main_v33 : Ref sig .tc := ⟨.hbm, 87, rfl⟩
abbrev main_c_9 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S1x8x257 : Shape := ⟨3, ![1, 8, 257]⟩
abbrev S4x128x64x8x64 : Shape := ⟨5, ![4, 128, 64, 8, 64]⟩
abbrev S_ : Shape := ⟨0, ![]⟩
abbrev S4x136x64x8x64 : Shape := ⟨5, ![4, 136, 64, 8, 64]⟩
abbrev S4x128x576x8x64 : Shape := ⟨5, ![4, 128, 576, 8, 64]⟩
abbrev S4x128x8x64x576 : Shape := ⟨5, ![4, 128, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S8x257 : Shape := ⟨2, ![8, 257]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S9 : Shape := ⟨1, ![9]⟩
abbrev S9x64 : Shape := ⟨2, ![9, 64]⟩
abbrev S128x576 : Shape := ⟨2, ![128, 576]⟩
abbrev S1x128x1x1x576 : Shape := ⟨5, ![1, 128, 1, 1, 576]⟩
abbrev S1x1x8x64x576 : Shape := ⟨5, ![1, 1, 8, 64, 576]⟩
abbrev S4x128x8x64 : Shape := ⟨4, ![4, 128, 8, 64]⟩
abbrev S4x128x8x64x1 : Shape := ⟨5, ![4, 128, 8, 64, 1]⟩
abbrev S4x128x8x64x64 : Shape := ⟨5, ![4, 128, 8, 64, 64]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x512, .f32⟩
  | .hbm, ⟨3, _⟩ => ⟨S1x8x257, .f32⟩
  | .hbm, ⟨4, _⟩ => ⟨S4x8192x512, .f32⟩
  | .hbm, ⟨5, _⟩ => ⟨S4x128x64x8x64, .f32⟩
  | .hbm, ⟨6, _⟩ => ⟨S4x128x64x8x64, .f32⟩
  | .hbm, ⟨7, _⟩ => ⟨S_, .i32⟩
  | .hbm, ⟨8, _⟩ => ⟨S_, .f32⟩
  | .hbm, ⟨9, _⟩ => ⟨S4x136x64x8x64, .f32⟩
  | .hbm, ⟨10, _⟩ => ⟨S4x128x64x8x64, .f32⟩
  | .hbm, ⟨11, _⟩ => ⟨S_, .i32⟩
  | .hbm, ⟨12, _⟩ => ⟨S_, .f32⟩
  | .hbm, ⟨13, _⟩ => ⟨S4x136x64x8x64, .f32⟩
  | .hbm, ⟨14, _⟩ => ⟨S4x128x64x8x64, .f32⟩
  | .hbm, ⟨15, _⟩ => ⟨S4x128x64x8x64, .f32⟩
  | .hbm, ⟨16, _⟩ => ⟨S4x128x64x8x64, .f32⟩
  | .hbm, ⟨17, _⟩ => ⟨S4x128x64x8x64, .f32⟩
  | .hbm, ⟨18, _⟩ => ⟨S4x128x64x8x64, .f32⟩
  | .hbm, ⟨19, _⟩ => ⟨S4x128x64x8x64, .f32⟩
  | .hbm, ⟨20, _⟩ => ⟨S4x128x64x8x64, .f32⟩
  | .hbm, ⟨21, _⟩ => ⟨S4x128x64x8x64, .f32⟩
  | .hbm, ⟨22, _⟩ => ⟨S4x128x64x8x64, .f32⟩
  | .hbm, ⟨23, _⟩ => ⟨S4x128x576x8x64, .f32⟩
  | .hbm, ⟨24, _⟩ => ⟨S4x128x64x8x64, .f32⟩
  | .hbm, ⟨25, _⟩ => ⟨S4x128x64x8x64, .f32⟩
  | .hbm, ⟨26, _⟩ => ⟨S4x128x64x8x64, .f32⟩
  | .hbm, ⟨27, _⟩ => ⟨S4x128x64x8x64, .f32⟩
  | .hbm, ⟨28, _⟩ => ⟨S4x128x64x8x64, .f32⟩
  | .hbm, ⟨29, _⟩ => ⟨S4x128x64x8x64, .f32⟩
  | .hbm, ⟨30, _⟩ => ⟨S4x128x64x8x64, .f32⟩
  | .hbm, ⟨31, _⟩ => ⟨S4x128x64x8x64, .f32⟩
  | .hbm, ⟨32, _⟩ => ⟨S4x128x64x8x64, .f32⟩
  | .hbm, ⟨33, _⟩ => ⟨S4x128x576x8x64, .f32⟩
  | .hbm, ⟨34, _⟩ => ⟨S4x128x8x64x576, .f32⟩
  | .hbm, ⟨35, _⟩ => ⟨S64, .i32⟩
  | .hbm, ⟨36, _⟩ => ⟨S64x1, .i32⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S576, .i32⟩
  | .hbm, ⟨41, _⟩ => ⟨S1x576, .i32⟩
  | .hbm, ⟨42, _⟩ => ⟨S64x576, .i32⟩
  | .hbm, ⟨43, _⟩ => ⟨S64x576, .i32⟩
  | .hbm, ⟨44, _⟩ => ⟨S64x576, .i32⟩
  | .hbm, ⟨45, _⟩ => ⟨S8x257, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i1⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S64x576, .i32⟩
  | .hbm, ⟨64, _⟩ => ⟨S64x576x1, .i32⟩
  | .hbm, ⟨65, _⟩ => ⟨S8x64x576, .f32⟩
  | .hbm, ⟨66, _⟩ => ⟨S128, .i32⟩
  | .hbm, ⟨67, _⟩ => ⟨S128x1, .i32⟩
  | .hbm, ⟨68, _⟩ => ⟨S_, .i32⟩
  | .hbm, ⟨69, _⟩ => ⟨S128x1, .i32⟩
  | .hbm, ⟨70, _⟩ => ⟨S128x1, .i32⟩
  | .hbm, ⟨71, _⟩ => ⟨S9, .i32⟩
  | .hbm, ⟨72, _⟩ => ⟨S9x64, .i32⟩
  | .hbm, ⟨73, _⟩ => ⟨S576, .i32⟩
  | .hbm, ⟨74, _⟩ => ⟨S1x576, .i32⟩
  | .hbm, ⟨75, _⟩ => ⟨S128x576, .i32⟩
  | .hbm, ⟨76, _⟩ => ⟨S128x576, .i32⟩
  | .hbm, ⟨77, _⟩ => ⟨S128x576, .i32⟩
  | .hbm, ⟨78, _⟩ => ⟨S_, .i32⟩
  | .hbm, ⟨79, _⟩ => ⟨S128x576, .i32⟩
  | .hbm, ⟨80, _⟩ => ⟨S128x576, .i1⟩
  | .hbm, ⟨81, _⟩ => ⟨S128x576, .i32⟩
  | .hbm, ⟨82, _⟩ => ⟨S128x576, .i1⟩
  | .hbm, ⟨83, _⟩ => ⟨S128x576, .i1⟩
  | .hbm, ⟨84, _⟩ => ⟨S_, .i32⟩
  | .hbm, ⟨85, _⟩ => ⟨S128x1, .i32⟩
  | .hbm, ⟨86, _⟩ => ⟨S128x1, .i32⟩
  | .hbm, ⟨87, _⟩ => ⟨S128x576, .i32⟩
  | .hbm, ⟨88, _⟩ => ⟨S128x576, .i1⟩
  | .hbm, ⟨89, _⟩ => ⟨S128x576, .i1⟩
  | .hbm, ⟨90, _⟩ => ⟨S1x128x1x1x576, .i1⟩
  | .hbm, ⟨91, _⟩ => ⟨S1x1x8x64x576, .f32⟩
  | .hbm, ⟨92, _⟩ => ⟨S4x128x8x64x576, .f32⟩
  | .hbm, ⟨93, _⟩ => ⟨S4x128x8x64x576, .f32⟩
  | .hbm, ⟨94, _⟩ => ⟨S_, .f32⟩
  | .hbm, ⟨95, _⟩ => ⟨S_, .f32⟩
  | .hbm, ⟨96, _⟩ => ⟨S4x128x8x64x576, .i1⟩
  | .hbm, ⟨97, _⟩ => ⟨S4x128x8x64x576, .f32⟩
  | .hbm, ⟨98, _⟩ => ⟨S4x128x8x64x576, .f32⟩
  | .hbm, ⟨99, _⟩ => ⟨S_, .f32⟩
  | .hbm, ⟨100, _⟩ => ⟨S4x128x8x64, .f32⟩
  | .hbm, ⟨101, _⟩ => ⟨S_, .f32⟩
  | .hbm, ⟨102, _⟩ => ⟨S4x128x8x64, .f32⟩
  | .hbm, ⟨103, _⟩ => ⟨S4x128x8x64, .f32⟩
  | .hbm, ⟨104, _⟩ => ⟨S4x128x8x64x1, .f32⟩
  | .hbm, ⟨105, _⟩ => ⟨S4x128x8x64x576, .f32⟩
  | .hbm, ⟨106, _⟩ => ⟨S4x128x8x64x576, .f32⟩
  | .hbm, ⟨107, _⟩ => ⟨S4x128x8x64x576, .f32⟩
  | .hbm, ⟨108, _⟩ => ⟨S_, .f32⟩
  | .hbm, ⟨109, _⟩ => ⟨S4x128x8x64, .f32⟩
  | .hbm, ⟨110, _⟩ => ⟨S4x128x8x64x1, .f32⟩
  | .hbm, ⟨111, _⟩ => ⟨S4x128x8x64x576, .f32⟩
  | .hbm, ⟨112, _⟩ => ⟨S4x128x8x64x576, .f32⟩
  | .hbm, ⟨113, _⟩ => ⟨S4x128x8x64x64, .f32⟩
  | .hbm, ⟨114, _⟩ => ⟨S4x128x64x8x64, .f32⟩
  | .hbm, ⟨115, _⟩ => ⟨S4x8192x512, .f32⟩
  | .hbm, ⟨116, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_c_3 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x2560 : Shape := ⟨3, ![1, 1024, 2560]⟩
abbrev S1x64 : Shape := ⟨2, ![1, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S32768x1024 : Shape := ⟨2, ![32768, 1024]⟩
abbrev S64 : Shape := ⟨1, ![64]⟩
abbrev S8x64 : Shape := ⟨2, ![8, 64]⟩
abbrev S1024 : Shape := ⟨1, ![1024]⟩
abbrev S1024x2560 : Shape := ⟨2, ![1024, 2560]⟩
abbrev S32768x512 : Shape := ⟨2, ![32768, 512]⟩
abbrev S512x1024 : Shape := ⟨2, ![512, 1024]⟩
abbrev S1024x512 : Shape := ⟨2, ![1024, 512]⟩

abbrev nBuf : Space → Nat
  | .hbm => 54
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S32768x1024, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S64, .f32⟩
  | .hbm, ⟨42, _⟩ => ⟨S1x64, .f32⟩
  | .hbm, ⟨43, _⟩ => ⟨S8x64, .f32⟩
  | .hbm, ⟨44, _⟩ => ⟨S512, .f32⟩
  | .hbm, ⟨45, _⟩ => ⟨S1x512, .f32⟩
  | .hbm, ⟨46, _⟩ => ⟨S1024, .f32⟩
  | .hbm, ⟨47, _⟩ => ⟨S1x1024, .f32⟩
  | .hbm, ⟨48, _⟩ => ⟨S1024x2560, .f32⟩
  | .hbm, ⟨49, _⟩ => ⟨S1024x2560, .bf16⟩
  | .hbm, ⟨50, _⟩ => ⟨S32768x512, .bf16⟩
  | .hbm, ⟨51, _⟩ => ⟨S32768x512, .f32⟩
  | .hbm, ⟨52, _⟩ => ⟨S32768x512, .f32⟩
  | .hbm, ⟨53, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev main_v24_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S1x1024 : Shape := ⟨2, ![1, 1024]⟩
abbrev S1x1024x2560 : Shape := ⟨3, ![1, 1024, 2560]⟩
abbrev S1x64 : Shape := ⟨2, ![1, 64]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2560 : Shape := ⟨2, ![1024, 2560]⟩
abbrev S4x8192x2560 : Shape := ⟨3, ![4, 8192, 2560]⟩
abbrev S4x8192x512 : Shape := ⟨3, ![4, 8192, 512]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S32768x512 : Shape := ⟨2, ![32768, 512]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x2560, .f32⟩
  | .hbm, ⟨23, _⟩ => ⟨S4x8192x2560, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x8x64, .f32⟩
  | .hbm, ⟨30, _⟩ => ⟨S64, .f32⟩
  | .hbm, ⟨31, _⟩ => ⟨S4x8192x8x64, .f32⟩
  | .hbm, ⟨32, _⟩ => ⟨S_, .f32⟩
  | .hbm, ⟨33, _⟩ => ⟨S4x8192x8, .f32⟩
  | .hbm, ⟨34, _⟩ => ⟨S4x8192x8x1, .f32⟩
  | .hbm, ⟨35, _⟩ => ⟨S_, .f32⟩
  | .hbm, ⟨36, _⟩ => ⟨S4x8192x8x1, .f32⟩
  | .hbm, ⟨37, _⟩ => ⟨S4x8192x8x1, .f32⟩
  | .hbm, ⟨38, _⟩ => ⟨S_, .f32⟩
  | .hbm, ⟨39, _⟩ => ⟨S4x8192x8x1, .f32⟩
  | .hbm, ⟨40, _⟩ => ⟨S4x8192x8x1, .f32⟩
  | .hbm, ⟨41, _⟩ => ⟨S4x8192x8x1, .f32⟩
  | .hbm, ⟨42, _⟩ => ⟨S4x8192x8x64, .f32⟩
  | .hbm, ⟨43, _⟩ => ⟨S4x8192x8x64, .f32⟩
  | .hbm, ⟨44, _⟩ => ⟨S1x1x1x64, .f32⟩
  | .hbm, ⟨45, _⟩ => ⟨S4x8192x8x64, .f32⟩
  | .hbm, ⟨46, _⟩ => ⟨S4x8192x8x64, .f32⟩
  | .hbm, ⟨47, _⟩ => ⟨S_, .f32⟩
  | .hbm, ⟨48, _⟩ => ⟨S4x8192x8x64, .f32⟩
  | .hbm, ⟨49, _⟩ => ⟨S4x8192x8x64, .f32⟩
  | .hbm, ⟨50, _⟩ => ⟨S4x8192x8x64, .f32⟩
  | .hbm, ⟨51, _⟩ => ⟨S64, .f32⟩
  | .hbm, ⟨52, _⟩ => ⟨S4x8192x8x64, .f32⟩
  | .hbm, ⟨53, _⟩ => ⟨S_, .f32⟩
  | .hbm, ⟨54, _⟩ => ⟨S4x8192x8, .f32⟩
  | .hbm, ⟨55, _⟩ => ⟨S4x8192x8x1, .f32⟩
  | .hbm, ⟨56, _⟩ => ⟨S_, .f32⟩
  | .hbm, ⟨57, _⟩ => ⟨S4x8192x8x1, .f32⟩
  | .hbm, ⟨58, _⟩ => ⟨S4x8192x8x1, .f32⟩
  | .hbm, ⟨59, _⟩ => ⟨S_, .f32⟩
  | .hbm, ⟨60, _⟩ => ⟨S4x8192x8x1, .f32⟩
  | .hbm, ⟨61, _⟩ => ⟨S4x8192x8x1, .f32⟩
  | .hbm, ⟨62, _⟩ => ⟨S4x8192x8x1, .f32⟩
  | .hbm, ⟨63, _⟩ => ⟨S4x8192x8x64, .f32⟩
  | .hbm, ⟨64, _⟩ => ⟨S4x8192x8x64, .f32⟩
  | .hbm, ⟨65, _⟩ => ⟨S1x1x1x64, .f32⟩
  | .hbm, ⟨66, _⟩ => ⟨S4x8192x8x64, .f32⟩
  | .hbm, ⟨67, _⟩ => ⟨S4x8192x8x64, .f32⟩
  | .hbm, ⟨68, _⟩ => ⟨S32768x512, .f32⟩
  | .hbm, ⟨69, _⟩ => ⟨S32768x512, .bf16⟩
  | .hbm, ⟨70, _⟩ => ⟨S32768x512, .f32⟩
  | .hbm, ⟨71, _⟩ => ⟨S32768x512, .f32⟩
  | .hbm, ⟨72, _⟩ => ⟨S4x8192x512, .f32⟩
  | .hbm, ⟨73, _⟩ => ⟨S4x8192x512, .f32⟩
  | .hbm, ⟨74, _⟩ => ⟨S_, .f32⟩
  | .hbm, ⟨75, _⟩ => ⟨S4x8192x512, .f32⟩
  | .hbm, ⟨76, _⟩ => ⟨S4x8192x512, .f32⟩
  | .hbm, ⟨77, _⟩ => ⟨S_, .f32⟩
  | .hbm, ⟨78, _⟩ => ⟨S4x8192x512, .f32⟩
  | .hbm, ⟨79, _⟩ => ⟨S4x8192x512, .f32⟩
  | .hbm, ⟨80, _⟩ => ⟨S4x8192x512, .f32⟩
  | .hbm, ⟨81, _⟩ => ⟨S32768x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S32768x512 : Shape := ⟨2, ![32768, 512]⟩
abbrev S1x4x8192x256 : Shape := ⟨4, ![1, 4, 8192, 256]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S32768x1024 : Shape := ⟨2, ![32768, 1024]⟩
abbrev S1024x32x512 : Shape := ⟨3, ![1024, 32, 512]⟩
abbrev S4x8192x256 : Shape := ⟨3, ![4, 8192, 256]⟩
abbrev S32768x256 : Shape := ⟨2, ![32768, 256]⟩
abbrev S512x1024 : Shape := ⟨2, ![512, 1024]⟩
abbrev S512x512 : Shape := ⟨2, ![512, 512]⟩
abbrev S1x32x512 : Shape := ⟨3, ![1, 32, 512]⟩
abbrev S512x256 : Shape := ⟨2, ![512, 256]⟩
abbrev S1x544x512 : Shape := ⟨3, ![1, 544, 512]⟩
abbrev S32x512 : Shape := ⟨2, ![32, 512]⟩
abbrev S1x512x512 : Shape := ⟨3, ![1, 512, 512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 42
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S32768x512, .f32⟩
  | .hbm, ⟨3, _⟩ => ⟨S1x4x8192x256, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x5632, .f32⟩
  | .hbm, ⟨11, _⟩ => ⟨S1x2816x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S31x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024x5632, .f32⟩
  | .hbm, ⟨27, _⟩ => ⟨S1024x5632, .bf16⟩
  | .hbm, ⟨28, _⟩ => ⟨S2816x1024, .f32⟩
  | .hbm, ⟨29, _⟩ => ⟨S2816x1024, .bf16⟩
  | .hbm, ⟨30, _⟩ => ⟨S1024, .f32⟩
  | .hbm, ⟨31, _⟩ => ⟨S1x1024, .f32⟩
  | .hbm, ⟨32, _⟩ => ⟨S1024x1024, .f32⟩
  | .hbm, ⟨33, _⟩ => ⟨S1024x1024, .bf16⟩
  | .hbm, ⟨34, _⟩ => ⟨S256x1024, .f32⟩
  | .hbm, ⟨35, _⟩ => ⟨S256x1024, .bf16⟩
  | .hbm, ⟨36, _⟩ => ⟨S32768x1024, .f32⟩
  | .hbm, ⟨37, _⟩ => ⟨S32768x512, .bf16⟩
  | .hbm, ⟨38, _⟩ => ⟨S1024x32x512, .f32⟩
  | .hbm, ⟨39, _⟩ => ⟨S4x8192x256, .f32⟩
  | .hbm, ⟨40, _⟩ => ⟨S32768x256, .f32⟩
  | .hbm, ⟨41, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x32x512, .f32⟩
  | .local _ .vmem, ⟨7, _⟩ => ⟨S1x32x512, .f32⟩
  | .local _ .vmem, ⟨8, _⟩ => ⟨S512x256, .f32⟩
  | .local _ .vmem, ⟨9, _⟩ => ⟨S512x256, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S512x1024, .f32⟩
  | .local _ .vmem, ⟨22, _⟩ => ⟨S512x1024, .f32⟩
  | .local _ .vmem, ⟨23, _⟩ => ⟨S1x544x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S4x8192x1024 : Shape := ⟨3, ![4, 8192, 1024]⟩
abbrev S4x8192x512 : Shape := ⟨3, ![4, 8192, 512]⟩
abbrev S32768x512 : Shape := ⟨2, ![32768, 512]⟩
abbrev S1x4x8192x256 : Shape := ⟨4, ![1, 4, 8192, 256]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S_ : Shape := ⟨0, ![]⟩
abbrev S4x8222x512 : Shape := ⟨3, ![4, 8222, 512]⟩
abbrev S1x1x512 : Shape := ⟨3, ![1, 1, 512]⟩
abbrev S512 : Shape := ⟨1, ![512]⟩
abbrev S4x8192 : Shape := ⟨2, ![4, 8192]⟩
abbrev S4x8192x1 : Shape := ⟨3, ![4, 8192, 1]⟩
abbrev S1024x1024 : Shape := ⟨2, ![1024, 1024]⟩
abbrev S1024 : Shape := ⟨1, ![1024]⟩
abbrev S1x1x1024 : Shape := ⟨3, ![1, 1, 1024]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S2816x1024 : Shape := ⟨2, ![2816, 1024]⟩
abbrev S4x8192x256 : Shape := ⟨3, ![4, 8192, 256]⟩
abbrev S256x1024 : Shape := ⟨2, ![256, 1024]⟩
abbrev S32768x1024 : Shape := ⟨2, ![32768, 1024]⟩

abbrev nBuf : Space → Nat
  | .hbm => 349
  | .vmem => 0
  | .smem => 0
  | _ => 0

abbrev hbmTy0_0 (i : Nat) : BufTy := match i % 128 with
  | 0 => ⟨S4x8192x1024, .f32⟩
  | 1 => ⟨S4x8192x512, .bf16⟩
  | 2 => ⟨S32768x512, .f32⟩
  | 3 => ⟨S1x4x8192x256, .f32⟩
  | 4 => ⟨S1x31x512, .f32⟩
  | 5 => ⟨S1x512, .f32⟩
  | 6 => ⟨S1x512, .f32⟩
  | 7 => ⟨S1x512, .f32⟩
  | 8 => ⟨S1x1024x1024, .f32⟩
  | 9 => ⟨S1x1024, .f32⟩
  | 10 => ⟨S1x1024x5632, .f32⟩
  | 11 => ⟨S1x2816x1024, .f32⟩
  | 12 => ⟨S1x1024, .f32⟩
  | 13 => ⟨S1x1024x1024, .f32⟩
  | 14 => ⟨S1x256x1024, .f32⟩
  | 15 => ⟨S4x8192x512, .f32⟩
  | 16 => ⟨S_, .i32⟩
  | 17 => ⟨S_, .f32⟩
  | 18 => ⟨S4x8222x512, .f32⟩
  | 19 => ⟨S4x8192x512, .f32⟩
  | 20 => ⟨S1x1x512, .f32⟩
  | 21 => ⟨S512, .f32⟩
  | 22 => ⟨S1x1x512, .f32⟩
  | 23 => ⟨S4x8192x512, .f32⟩
  | 24 => ⟨S4x8192x512, .f32⟩
  | 25 => ⟨S4x8192x512, .f32⟩
  | 26 => ⟨S1x1x512, .f32⟩
  | 27 => ⟨S512, .f32⟩
  | 28 => ⟨S1x1x512, .f32⟩
  | 29 => ⟨S4x8192x512, .f32⟩
  | 30 => ⟨S4x8192x512, .f32⟩
  | 31 => ⟨S4x8192x512, .f32⟩
  | 32 => ⟨S4x8192x512, .f32⟩
  | 33 => ⟨S1x1x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S4x8192x512, .f32⟩
  | 40 => ⟨S1x1x512, .f32⟩
  | 41 => ⟨S512, .f32⟩
  | 42 => ⟨S1x1x512, .f32⟩
  | 43 => ⟨S4x8192x512, .f32⟩
  | 44 => ⟨S4x8192x512, .f32⟩
  | 45 => ⟨S4x8192x512, .f32⟩
  | 46 => ⟨S4x8192x512, .f32⟩
  | 47 => ⟨S1x1x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S1x1x512, .f32⟩
  | 55 => ⟨S512, .f32⟩
  | 56 => ⟨S1x1x512, .f32⟩
  | 57 => ⟨S4x8192x512, .f32⟩
  | 58 => ⟨S4x8192x512, .f32⟩
  | 59 => ⟨S4x8192x512, .f32⟩
  | 60 => ⟨S4x8192x512, .f32⟩
  | 61 => ⟨S1x1x512, .f32⟩
  | 62 => ⟨S512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S1x1x512, .f32⟩
  | 69 => ⟨S512, .f32⟩
  | 70 => ⟨S1x1x512, .f32⟩
  | 71 => ⟨S4x8192x512, .f32⟩
  | 72 => ⟨S4x8192x512, .f32⟩
  | 73 => ⟨S4x8192x512, .f32⟩
  | 74 => ⟨S4x8192x512, .f32⟩
  | 75 => ⟨S1x1x512, .f32⟩
  | 76 => ⟨S512, .f32⟩
  | 77 => ⟨S1x1x512, .f32⟩
  | 78 => ⟨S4x8192x512, .f32⟩
  | 79 => ⟨S4x8192x512, .f32⟩
  | 80 => ⟨S4x8192x512, .f32⟩
  | 81 => ⟨S4x8192x512, .f32⟩
  | 82 => ⟨S1x1x512, .f32⟩
  | 83 => ⟨S512, .f32⟩
  | 84 => ⟨S1x1x512, .f32⟩
  | 85 => ⟨S4x8192x512, .f32⟩
  | 86 => ⟨S4x8192x512, .f32⟩
  | 87 => ⟨S4x8192x512, .f32⟩
  | 88 => ⟨S4x8192x512, .f32⟩
  | 89 => ⟨S1x1x512, .f32⟩
  | 90 => ⟨S512, .f32⟩
  | 91 => ⟨S1x1x512, .f32⟩
  | 92 => ⟨S4x8192x512, .f32⟩
  | 93 => ⟨S4x8192x512, .f32⟩
  | 94 => ⟨S4x8192x512, .f32⟩
  | 95 => ⟨S4x8192x512, .f32⟩
  | 96 => ⟨S1x1x512, .f32⟩
  | 97 => ⟨S512, .f32⟩
  | 98 => ⟨S1x1x512, .f32⟩
  | 99 => ⟨S4x8192x512, .f32⟩
  | 100 => ⟨S4x8192x512, .f32⟩
  | 101 => ⟨S4x8192x512, .f32⟩
  | 102 => ⟨S4x8192x512, .f32⟩
  | 103 => ⟨S1x1x512, .f32⟩
  | 104 => ⟨S512, .f32⟩
  | 105 => ⟨S1x1x512, .f32⟩
  | 106 => ⟨S4x8192x512, .f32⟩
  | 107 => ⟨S4x8192x512, .f32⟩
  | 108 => ⟨S4x8192x512, .f32⟩
  | 109 => ⟨S4x8192x512, .f32⟩
  | 110 => ⟨S1x1x512, .f32⟩
  | 111 => ⟨S512, .f32⟩
  | 112 => ⟨S1x1x512, .f32⟩
  | 113 => ⟨S4x8192x512, .f32⟩
  | 114 => ⟨S4x8192x512, .f32⟩
  | 115 => ⟨S4x8192x512, .f32⟩
  | 116 => ⟨S4x8192x512, .f32⟩
  | 117 => ⟨S1x1x512, .f32⟩
  | 118 => ⟨S512, .f32⟩
  | 119 => ⟨S1x1x512, .f32⟩
  | 120 => ⟨S4x8192x512, .f32⟩
  | 121 => ⟨S4x8192x512, .f32⟩
  | 122 => ⟨S4x8192x512, .f32⟩
  | 123 => ⟨S4x8192x512, .f32⟩
  | 124 => ⟨S1x1x512, .f32⟩
  | 125 => ⟨S512, .f32⟩
  | 126 => ⟨S1x1x512, .f32⟩
  | 127 => ⟨S4x8192x512, .f32⟩
  | _ => ⟨S4x8192x1024, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S1x1x512, .f32⟩
  | 4 => ⟨S512, .f32⟩
  | 5 => ⟨S1x1x512, .f32⟩
  | 6 => ⟨S4x8192x512, .f32⟩
  | 7 => ⟨S4x8192x512, .f32⟩
  | 8 => ⟨S4x8192x512, .f32⟩
  | 9 => ⟨S4x8192x512, .f32⟩
  | 10 => ⟨S1x1x512, .f32⟩
  | 11 => ⟨S512, .f32⟩
  | 12 => ⟨S1x1x512, .f32⟩
  | 13 => ⟨S4x8192x512, .f32⟩
  | 14 => ⟨S4x8192x512, .f32⟩
  | 15 => ⟨S4x8192x512, .f32⟩
  | 16 => ⟨S4x8192x512, .f32⟩
  | 17 => ⟨S1x1x512, .f32⟩
  | 18 => ⟨S512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S1x1x512, .f32⟩
  | 25 => ⟨S512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S1x1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S1x1x512, .f32⟩
  | 39 => ⟨S512, .f32⟩
  | 40 => ⟨S1x1x512, .f32⟩
  | 41 => ⟨S4x8192x512, .f32⟩
  | 42 => ⟨S4x8192x512, .f32⟩
  | 43 => ⟨S4x8192x512, .f32⟩
  | 44 => ⟨S4x8192x512, .f32⟩
  | 45 => ⟨S1x1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S4x8192x512, .f32⟩
  | 52 => ⟨S1x1x512, .f32⟩
  | 53 => ⟨S512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S1x1x512, .f32⟩
  | 60 => ⟨S512, .f32⟩
  | 61 => ⟨S1x1x512, .f32⟩
  | 62 => ⟨S4x8192x512, .f32⟩
  | 63 => ⟨S4x8192x512, .f32⟩
  | 64 => ⟨S4x8192x512, .f32⟩
  | 65 => ⟨S4x8192x512, .f32⟩
  | 66 => ⟨S1x1x512, .f32⟩
  | 67 => ⟨S512, .f32⟩
  | 68 => ⟨S1x1x512, .f32⟩
  | 69 => ⟨S4x8192x512, .f32⟩
  | 70 => ⟨S4x8192x512, .f32⟩
  | 71 => ⟨S4x8192x512, .f32⟩
  | 72 => ⟨S4x8192x512, .f32⟩
  | 73 => ⟨S1x1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S1x1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S4x8192x512, .f32⟩
  | 87 => ⟨S1x1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S4x8192x512, .f32⟩
  | 94 => ⟨S1x1x512, .f32⟩
  | 95 => ⟨S512, .f32⟩
  | 96 => ⟨S1x1x512, .f32⟩
  | 97 => ⟨S4x8192x512, .f32⟩
  | 98 => ⟨S4x8192x512, .f32⟩
  | 99 => ⟨S4x8192x512, .f32⟩
  | 100 => ⟨S4x8192x512, .f32⟩
  | 101 => ⟨S1x1x512, .f32⟩
  | 102 => ⟨S512, .f32⟩
  | 103 => ⟨S1x1x512, .f32⟩
  | 104 => ⟨S4x8192x512, .f32⟩
  | 105 => ⟨S4x8192x512, .f32⟩
  | 106 => ⟨S4x8192x512, .f32⟩
  | 107 => ⟨S512, .f32⟩
  | 108 => ⟨S1x1x512, .f32⟩
  | 109 => ⟨S4x8192x512, .f32⟩
  | 110 => ⟨S4x8192x512, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S4x8192x512, .f32⟩
  | 118 => ⟨S4x8192x512, .f32⟩
  | 119 => ⟨S4x8192x512, .f32⟩
  | 120 => ⟨S_, .f32⟩
  | 121 => ⟨S4x8192, .f32⟩
  | 122 => ⟨S4x8192x1, .f32⟩
  | 123 => ⟨S_, .f32⟩
  | 124 => ⟨S4x8192x1, .f32⟩
  | 125 => ⟨S4x8192x1, .f32⟩
  | 126 => ⟨S_, .f32⟩
  | 127 => ⟨S4x8192x1, .f32⟩
  | _ => ⟨S4x8192x1024, .f32⟩

abbrev hbmTy0_2 (i : Nat) : BufTy := match i % 128 with
  | 0 => ⟨S4x8192x1, .f32⟩
  | 1 => ⟨S4x8192x1, .f32⟩
  | 2 => ⟨S4x8192x512, .f32⟩
  | 3 => ⟨S4x8192x512, .f32⟩
  | 4 => ⟨S512, .f32⟩
  | 5 => ⟨S1x1x512, .f32⟩
  | 6 => ⟨S4x8192x512, .f32⟩
  | 7 => ⟨S4x8192x512, .f32⟩
  | 8 => ⟨S512, .f32⟩
  | 9 => ⟨S1x1x512, .f32⟩
  | 10 => ⟨S4x8192x512, .f32⟩
  | 11 => ⟨S4x8192x512, .f32⟩
  | 12 => ⟨S4x8192x512, .f32⟩
  | 13 => ⟨S4x8192x512, .f32⟩
  | 14 => ⟨S_, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S4x8192x512, .f32⟩
  | 21 => ⟨S4x8192x512, .f32⟩
  | 22 => ⟨S4x8192x1024, .f32⟩
  | 23 => ⟨S1024x1024, .f32⟩
  | 24 => ⟨S4x8192x1024, .f32⟩
  | 25 => ⟨S4x8192x1024, .f32⟩
  | 26 => ⟨S1024, .f32⟩
  | 27 => ⟨S4x8192x1024, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S_, .f32⟩
  | 35 => ⟨S4x8192x1, .f32⟩
  | 36 => ⟨S4x8192x1, .f32⟩
  | 37 => ⟨S4x8192x1, .f32⟩
  | 38 => ⟨S4x8192x1024, .f32⟩
  | 39 => ⟨S4x8192x1024, .f32⟩
  | 40 => ⟨S1x1x1024, .f32⟩
  | 41 => ⟨S4x8192x1024, .f32⟩
  | 42 => ⟨S4x8192x1024, .f32⟩
  | 43 => ⟨S1024x5632, .f32⟩
  | 44 => ⟨S4x8192x5632, .f32⟩
  | 45 => ⟨S4x8192x2816, .f32⟩
  | 46 => ⟨S4x8192x2816, .f32⟩
  | 47 => ⟨S4x8192x2816, .f32⟩
  | 48 => ⟨S4x8192x2816, .f32⟩
  | 49 => ⟨S_, .f32⟩
  | 50 => ⟨S4x8192x2816, .f32⟩
  | 51 => ⟨S4x8192x2816, .f32⟩
  | 52 => ⟨S_, .f32⟩
  | 53 => ⟨S4x8192x2816, .f32⟩
  | 54 => ⟨S4x8192x2816, .f32⟩
  | 55 => ⟨S4x8192x2816, .f32⟩
  | 56 => ⟨S4x8192x2816, .f32⟩
  | 57 => ⟨S2816x1024, .f32⟩
  | 58 => ⟨S4x8192x1024, .f32⟩
  | 59 => ⟨S4x8192x1024, .f32⟩
  | 60 => ⟨S1024, .f32⟩
  | 61 => ⟨S4x8192x1024, .f32⟩
  | 62 => ⟨S_, .f32⟩
  | 63 => ⟨S4x8192, .f32⟩
  | 64 => ⟨S4x8192x1, .f32⟩
  | 65 => ⟨S_, .f32⟩
  | 66 => ⟨S4x8192x1, .f32⟩
  | 67 => ⟨S4x8192x1, .f32⟩
  | 68 => ⟨S_, .f32⟩
  | 69 => ⟨S4x8192x1, .f32⟩
  | 70 => ⟨S4x8192x1, .f32⟩
  | 71 => ⟨S4x8192x1, .f32⟩
  | 72 => ⟨S4x8192x1024, .f32⟩
  | 73 => ⟨S4x8192x1024, .f32⟩
  | 74 => ⟨S1x1x1024, .f32⟩
  | 75 => ⟨S4x8192x1024, .f32⟩
  | 76 => ⟨S4x8192x1024, .f32⟩
  | 77 => ⟨S1024x1024, .f32⟩
  | 78 => ⟨S4x8192x1024, .f32⟩
  | 79 => ⟨S4x8192x1024, .f32⟩
  | 80 => ⟨S4x8192x1024, .f32⟩
  | 81 => ⟨S_, .f32⟩
  | 82 => ⟨S4x8192x1024, .f32⟩
  | 83 => ⟨S4x8192x1024, .f32⟩
  | 84 => ⟨S_, .f32⟩
  | 85 => ⟨S4x8192x1024, .f32⟩
  | 86 => ⟨S4x8192x1024, .f32⟩
  | 87 => ⟨S4x8192x256, .f32⟩
  | 88 => ⟨S256x1024, .f32⟩
  | 89 => ⟨S4x8192x1024, .f32⟩
  | 90 => ⟨S4x8192x1024, .f32⟩
  | 91 => ⟨S4x8192x1024, .f32⟩
  | 92 => ⟨S32768x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_cst : Ref sig .tc := ⟨.hbm, 239, rfl⟩
abbrev main_v222 : Ref sig .tc := ⟨.hbm, 240, rfl⟩
abbrev main_v223 : Ref sig .tc := ⟨.hbm, 241, rfl⟩
abbrev main_cst_0 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_cst_1 : Ref sig .tc := ⟨.hbm, 248, rfl⟩
abbrev main_v229 : Ref sig .tc := ⟨.hbm, 249, rfl⟩
abbrev main_v230 : Ref sig .tc := ⟨.hbm, 250, rfl⟩
abbrev main_cst_2 : Ref sig .tc := ⟨.hbm, 251, rfl⟩
abbrev main_v231 : Ref sig .tc := ⟨.hbm, 252, rfl⟩
abbrev main_v232 : Ref sig .tc := ⟨.hbm, 253, rfl⟩
abbrev main_cst_3 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_cst_4 : Ref sig .tc := ⟨.hbm, 284, rfl⟩
abbrev main_v254 : Ref sig .tc := ⟨.hbm, 285, rfl⟩
abbrev main_v255 : Ref sig .tc := ⟨.hbm, 286, rfl⟩
abbrev main_cst_5 : Ref sig .tc := ⟨.hbm, 287, rfl⟩
abbrev main_v256 : Ref sig .tc := ⟨.hbm, 288, rfl⟩
abbrev main_v257 : Ref sig .tc := ⟨.hbm, 289, rfl⟩
abbrev main_cst_6 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_call2_v0 : Ref sig .tc := ⟨.hbm, 303, rfl⟩
abbrev main_call2_v1 : Ref sig .tc := ⟨.hbm, 304, rfl⟩
abbrev main_call2_cst : Ref sig .tc := ⟨.hbm, 305, rfl⟩
abbrev main_call2_v2 : Ref sig .tc := ⟨.hbm, 306, rfl⟩
abbrev main_call2_v3 : Ref sig .tc := ⟨.hbm, 307, rfl⟩
abbrev main_call2_cst_0 : Ref sig .tc := ⟨.hbm, 308, rfl⟩
abbrev main_call2_v4 : Ref sig .tc := ⟨.hbm, 309, rfl⟩
abbrev main_call2_v5 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_cst_7 : Ref sig .tc := ⟨.hbm, 318, rfl⟩
abbrev main_v277 : Ref sig .tc := ⟨.hbm, 319, rfl⟩
abbrev main_v278 : Ref sig .tc := ⟨.hbm, 320, rfl⟩
abbrev main_cst_8 : Ref sig .tc := ⟨.hbm, 321, rfl⟩
abbrev main_v279 : Ref sig .tc := ⟨.hbm, 322, rfl⟩
abbrev main_v280 : Ref sig .tc := ⟨.hbm, 323, rfl⟩
abbrev main_cst_9 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_cst_10 : Ref sig .tc := ⟨.hbm, 337, rfl⟩
abbrev main_v293 : Ref sig .tc := ⟨.hbm, 338, rfl⟩
abbrev main_v294 : Ref sig .tc := ⟨.hbm, 339, rfl⟩
abbrev main_cst_11 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩

abbrev nD : Nat := 1
abbrev τ : Topo := Topo.v7x

variable {F : FTy → Type} [FloatOps F]
-- ==== Proof.Softmax.lean ====
module

public import Idealize.ShloMosaic.Lib.Pointwise
public import Idealize.ShloMosaic.Lib.ValueIdx

@[expose] public section

noncomputable section

/-! The softmax-weighted sum over the extended reals, with no program in sight: the form that divides once at the end,
    its invariance under splitting the axis in three and under dropping masked entries, and its equality with the form
    that divides every weight first. -/

namespace Cert.Softmax

open Idealize.ShloMosaic

/-- The greatest logit. -/
def mx {n : ℕ} (lg : Fin n → EReal) : EReal := Finset.univ.fold max ⊥ lg

/-- The softmax-weighted sum of `vv` by the logits `lg`, divided once: `(∑ exp (lg - max) * vv) / ∑ exp (lg - max)`. -/
def soft {n : ℕ} (lg vv : Fin n → EReal) : EReal :=
  Ideal.div (∑ j, Ideal.exp (lg j - mx lg) * vv j) (∑ j, Ideal.exp (lg j - mx lg))

theorem mx_eq_sup {n : ℕ} (lg : Fin n → EReal) : mx lg = Finset.univ.sup lg := rfl

theorem le_mx {n : ℕ} (lg : Fin n → EReal) (j : Fin n) : lg j ≤ mx lg := by
  rw [mx_eq_sup]; exact Finset.le_sup (Finset.mem_univ j)

theorem mx_le {n : ℕ} (lg : Fin n → EReal) (M : EReal) (h : ∀ j, lg j ≤ M) : mx lg ≤ M := by
  rw [mx_eq_sup]; exact Finset.sup_le fun j _ => h j

/-- The greatest logit is one of the logits, on a nonempty axis. -/
theorem exists_mx {n : ℕ} (lg : Fin (n + 1) → EReal) : ∃ j, mx lg = lg j := by
  obtain ⟨j, _, hj⟩ := Finset.exists_mem_eq_sup (Finset.univ : Finset (Fin (n + 1))) ⟨0, Finset.mem_univ _⟩ lg
  exact ⟨j, hj⟩

/-- A maximum over three stretches of 256 is the maximum over the whole axis of 768. -/
theorem mx_three (f : Fin 768 → EReal) :
    max (max (mx fun o : Fin 256 => f ⟨o.val, by omega⟩) (mx fun o : Fin 256 => f ⟨256 + o.val, by omega⟩))
      (mx fun o : Fin 256 => f ⟨512 + o.val, by omega⟩) = mx f := by
  apply le_antisymm
  · refine max_le (max_le ?_ ?_) ?_ <;> exact mx_le _ _ fun o => le_mx f _
  · refine mx_le _ _ fun j => ?_
    by_cases h1 : j.val < 256
    · exact le_trans (le_mx (fun o : Fin 256 => f ⟨o.val, by omega⟩) ⟨j.val, h1⟩) (le_trans (le_max_left _ _) (le_max_left _ _))
    · by_cases h2 : j.val < 512
      · have e : j = (⟨256 + (j.val - 256), by omega⟩ : Fin 768) := Fin.ext (by simp only; omega)
        rw [e]
        exact le_trans (le_mx (fun o : Fin 256 => f ⟨256 + o.val, by omega⟩) ⟨j.val - 256, by omega⟩) (le_trans (le_max_right _ _) (le_max_left _ _))
      · have e : j = (⟨512 + (j.val - 512), by omega⟩ : Fin 768) := Fin.ext (by simp only; omega)
        rw [e]
        exact le_trans (le_mx (fun o : Fin 256 => f ⟨512 + o.val, by omega⟩) ⟨j.val - 512, by omega⟩) (le_max_right _ _)

/-- A sum over three stretches of 256 is the sum over the whole axis of 768. -/
theorem sum_three (f : Fin 768 → EReal) :
    (∑ o : Fin 256, f ⟨o.val, by omega⟩) + (∑ o : Fin 256, f ⟨256 + o.val, by omega⟩)
      + (∑ o : Fin 256, f ⟨512 + o.val, by omega⟩) = ∑ w, f w := by
  rw [Fin.sum_univ_add (a := 512) (b := 256) f, Fin.sum_univ_add (a := 256) (b := 256) fun i => f (Fin.castAdd 256 i)]
  rfl

/-- The three-stretch form of the softmax-weighted sum, as a tiled computation has it, is the form over the whole
    axis. -/
theorem soft_three (lg vv : Fin 768 → EReal) (M : EReal)
    (hM : M = max (max (mx fun o : Fin 256 => lg ⟨o.val, by omega⟩) (mx fun o : Fin 256 => lg ⟨256 + o.val, by omega⟩))
      (mx fun o : Fin 256 => lg ⟨512 + o.val, by omega⟩)) :
    Ideal.div
      ((∑ o : Fin 256, Ideal.exp (lg ⟨o.val, by omega⟩ - M) * vv ⟨o.val, by omega⟩)
        + (∑ o : Fin 256, Ideal.exp (lg ⟨256 + o.val, by omega⟩ - M) * vv ⟨256 + o.val, by omega⟩)
        + (∑ o : Fin 256, Ideal.exp (lg ⟨512 + o.val, by omega⟩ - M) * vv ⟨512 + o.val, by omega⟩))
      ((∑ o : Fin 256, Ideal.exp (lg ⟨o.val, by omega⟩ - M))
        + (∑ o : Fin 256, Ideal.exp (lg ⟨256 + o.val, by omega⟩ - M))
        + (∑ o : Fin 256, Ideal.exp (lg ⟨512 + o.val, by omega⟩ - M))) = soft lg vv := by
  rw [mx_three lg] at hM
  subst hM
  rw [sum_three fun w => Ideal.exp (lg w - mx lg) * vv w, sum_three fun w => Ideal.exp (lg w - mx lg)]
  rfl

/-- A sum whose terms vanish off the image of an injective map is the sum along the map. -/
theorem sum_embed {n k : ℕ} (e : Fin k → Fin n) (he : Function.Injective e) (f : Fin n → EReal)
    (h0 : ∀ w, (∀ j, e j ≠ w) → f w = 0) : ∑ w, f w = ∑ j, f (e j) := by
  rw [← Finset.sum_image (s := Finset.univ) (g := e) (f := f) (fun a _ b _ h => he h)]
  refine (Finset.sum_subset (Finset.subset_univ _) fun w _ hw => h0 w fun j hj => hw ?_).symm
  exact Finset.mem_image.mpr ⟨j, Finset.mem_univ _, hj⟩

/-- Entries whose logit is `⊥` drop out of the softmax-weighted sum, whatever their value. -/
theorem soft_embed {n k : ℕ} (e : Fin k → Fin n) (he : Function.Injective e) (lg vv : Fin n → EReal)
    (h0 : ∀ w, (∀ j, e j ≠ w) → lg w = ⊥) : soft lg vv = soft (fun j => lg (e j)) (fun j => vv (e j)) := by
  have hm : mx lg = mx fun j => lg (e j) := by
    apply le_antisymm
    · refine mx_le _ _ fun w => ?_
      by_cases hw : ∃ j, e j = w
      · obtain ⟨j, rfl⟩ := hw; exact le_mx (fun j => lg (e j)) j
      · rw [h0 w fun j hj => hw ⟨j, hj⟩]; exact bot_le
    · exact mx_le _ _ fun j => le_mx lg (e j)
  have hz : ∀ w, (∀ j, e j ≠ w) → Ideal.exp (lg w - mx lg) = 0 := fun w hw => by
    rw [h0 w hw, EReal.bot_sub, Ideal.exp_bot]
  unfold soft
  rw [sum_embed e he (fun w => Ideal.exp (lg w - mx lg) * vv w) (fun w hw => by rw [hz w hw, zero_mul]),
    sum_embed e he (fun w => Ideal.exp (lg w - mx lg)) hz, hm]

/-- Multiplying a sum by a nonnegative real multiplies every term. -/
theorem sum_mul_coe {n : ℕ} (f : Fin n → EReal) (c : ℝ) (hc : 0 ≤ c) : (∑ j, f j) * (c : EReal) = ∑ j, f j * (c : EReal) := by
  have h : ∀ s : Finset (Fin n), (∑ j ∈ s, f j) * (c : EReal) = ∑ j ∈ s, f j * (c : EReal) := fun s => by
    induction s using Finset.induction_on with
    | empty => simp
    | insert a s ha ih =>
      rw [Finset.sum_insert ha, Finset.sum_insert ha, ← ih]
      exact EReal.right_distrib_of_nonneg_of_ne_top (EReal.coe_nonneg.mpr hc) (EReal.coe_ne_top c) _ _
  exact h Finset.univ

/-- A finite sum of reals is their sum in the reals. -/
theorem sum_coe {n : ℕ} (r : Fin n → ℝ) : (∑ j, (r j : EReal)) = ((∑ j, r j : ℝ) : EReal) := by
  have h : ∀ s : Finset (Fin n), (∑ j ∈ s, (r j : EReal)) = ((∑ j ∈ s, r j : ℝ) : EReal) := fun s => by
    induction s using Finset.induction_on with
    | empty => simp
    | insert a s ha ih => rw [Finset.sum_insert ha, Finset.sum_insert ha, ih, EReal.coe_add]
  exact h Finset.univ

/-- The exponential of a difference from a real number is a real number that is not negative, off `⊤`. -/
theorem exp_sub_coe (x : EReal) (hx : x ≠ ⊤) (M : ℝ) : ∃ r : ℝ, 0 ≤ r ∧ Ideal.exp (x - (M : EReal)) = (r : EReal) := by
  induction x using EReal.rec with
  | bot => exact ⟨0, le_refl _, by rw [EReal.bot_sub, Ideal.exp_bot]; rfl⟩
  | coe x => exact ⟨Real.exp (x - M), (Real.exp_pos _).le, by rw [← EReal.coe_sub, Ideal.exp_coe]⟩
  | top => exact absurd rfl hx

/-- THE TWO SOFTMAX FORMS AGREE when no logit is `⊤` and one is real: dividing each weight before the weighted sum is
    dividing the weighted sum. -/
theorem softRef_eq {n : ℕ} (lg vv : Fin n → EReal) (ht : ∀ j, lg j ≠ ⊤) (hr : ∃ j, lg j ≠ ⊥) :
    (∑ j, vv j * Ideal.div (Ideal.exp (lg j - mx lg)) (∑ l, Ideal.exp (lg l - mx lg))) = soft lg vv := by
  obtain ⟨j₀, hj₀⟩ := hr
  have hMt : mx lg ≠ ⊤ := by
    rw [mx_eq_sup]
    intro h
    have := (Finset.sup_lt_iff (s := Finset.univ) (f := lg) (bot_lt_top)).mpr fun j _ => lt_top_iff_ne_top.mpr (ht j)
    exact absurd h this.ne
  have hMb : mx lg ≠ ⊥ := fun h => hj₀ (le_bot_iff.mp (h ▸ le_mx lg j₀))
  obtain ⟨M, hM⟩ : ∃ M : ℝ, mx lg = (M : EReal) := ⟨(mx lg).toReal, (EReal.coe_toReal hMt hMb).symm⟩
  unfold soft
  rw [hM]
  choose r hr0 hre using fun j => exp_sub_coe (lg j) (ht j) M
  have hpos : 0 < r j₀ := by
    have h1 : lg j₀ = ((lg j₀).toReal : EReal) := (EReal.coe_toReal (ht j₀) hj₀).symm
    have h2 := hre j₀
    rw [h1, ← EReal.coe_sub, Ideal.exp_coe] at h2
    rw [← EReal.coe_eq_coe_iff.mp h2]
    exact Real.exp_pos _
  have hl : (∑ l, Ideal.exp (lg l - (M : EReal))) = ((∑ l, r l : ℝ) : EReal) := by
    rw [← sum_coe]
    exact Finset.sum_congr rfl fun l _ => hre l
  have hlpos : 0 < ∑ l, r l := lt_of_lt_of_le hpos (Finset.single_le_sum (fun l _ => hr0 l) (Finset.mem_univ j₀))
  rw [hl, Ideal.div_coe hlpos.ne', sum_mul_coe _ _ (by positivity)]
  refine Finset.sum_congr rfl fun j _ => ?_
  rw [Ideal.div_coe hlpos.ne', mul_comm (vv j), mul_assoc, mul_assoc, mul_comm (vv j)]

end Cert.Softmax

end
-- ==== Proof.Words.lean ====
module

public import Idealize.ShloMosaic.Lib.Pointwise
public import Idealize.ShloMosaic.Lib.ValueIdx

@[expose] public section

set_option maxRecDepth 16384

noncomputable section

/-! The index words of the bias table and of the band: clipped distances and chunk numbers as words, and a gather of
    columns read at an index. -/

namespace Cert.Words

open Idealize.ShloMosaic

/-- `table[:, idx]` over the columns of an `[H, N]` table, for a rectangle `[R, C]` of column numbers: entry
    `(h, r, w)` is the table's entry in row `h` at the column that `idx` holds at `(r, w, 0)`. -/
theorem gather_cols {α : Type} {H N R C : ℕ} (d : GatherDims ⟨2, ![H, N]⟩ ⟨3, ![R, C, 1]⟩ ⟨3, ![H, R, C]⟩)
    (wf : GatherDims.WF ⟨2, ![H, N]⟩ ⟨3, ![R, C, 1]⟩ ⟨3, ![H, R, C]⟩ [0] [1] [] [1] [] 2 ![H, 1])
    (hd : d = { offsetDims := [0], collapsedSliceDims := [1], operandBatchingDims := [], startIndicesBatchingDims := [],
                startIndexMap := [1], indexVectorDim := 2, sliceSizes := ![H, 1], wf := wf })
    (x : (⟨2, ![H, N]⟩ : Shape).Idx → α) (idx : IVec ⟨3, ![R, C, 1]⟩ 32) (h : Fin H) (r : Fin R) (w : Fin C) (b : Fin N)
    (hb : idx (ix3 r w 0) = BitVec.ofNat 32 b.val) (hN : N < 2 ^ 31) :
    Host.gather d x idx (ix3 h r w) = x (ix2 h b) := by
  subst hd
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · show GatherDims.start _ _ _ _ + GatherDims.batchCoord _ _ _ + GatherDims.offCoord _ _ _ = h.val
    rw [GatherDims.batchCoord_eq_zero _ _ _ List.not_mem_nil]
    unfold GatherDims.start
    rw [dif_neg (show ¬ (0 : Fin 2) ∈ [(1 : Fin 2)] by decide)]
    simp only [Nat.zero_add, Nat.add_zero]
    rfl
  · show GatherDims.start _ _ _ _ + GatherDims.batchCoord _ _ _ + GatherDims.offCoord _ _ _ = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] from List.mem_singleton.mpr rfl)]
    generalize hs : GatherDims.siIdx _ _ _ = s
    have hsi : s = ix3 r w 0 := by
      rw [← hs]
      funext b'; refine Fin.ext ?_
      match b' with
      | ⟨0, _⟩ => rfl
      | ⟨1, _⟩ => rfl
      | ⟨2, _⟩ => rfl
    rw [hsi, hb]
    have hlt := b.isLt
    have e : (BitVec.ofNat 32 b.val).toInt.toNat = b.val := by
      rw [BitVec.toInt_eq_toNat_of_lt (by rw [BitVec.toNat_ofNat]; omega), BitVec.toNat_ofNat]
      omega
    rw [e]
    show min b.val (N - 1) = b.val
    omega

/-- The column of the bias table for a query at row `r` and a key `w` positions into the window: the distance
    `r + 512 - w` clipped to `[-128, 128]`, counted from `-128`. -/
def col (r w : ℕ) : Fin 257 := ⟨min (r + 640 - w) 256, by omega⟩

theorem clip_small : ∀ x : Fin 2048,
    IntOp.addi (IntOp.minsi 128#32 (IntOp.maxsi 4294967168#32 (BitVec.ofNat 32 x.val - 768#32))) 128#32
      = BitVec.ofNat 32 (min (x.val - 640) 256) := by decide +kernel

/-- The printed clip of a distance, as a word. -/
theorem clip_word (r w : ℕ) (hr : r < 256) (hw : w < 768) :
    IntOp.addi (IntOp.minsi 128#32 (IntOp.maxsi 4294967168#32
      (IntOp.subi (IntOp.addi (BitVec.ofNat 32 r) 512#32) (BitVec.ofNat 32 w)))) 128#32 = BitVec.ofNat 32 (col r w).val := by
  have h : IntOp.subi (IntOp.addi (BitVec.ofNat 32 r) 512#32) (BitVec.ofNat 32 w)
      = BitVec.ofNat 32 (r + 1280 - w) - 768#32 := by
    show BitVec.ofNat 32 r + 512#32 - BitVec.ofNat 32 w = _
    have e : BitVec.ofNat 32 (r + 1280 - w) + BitVec.ofNat 32 w = BitVec.ofNat 32 r + 1280#32 := by
      rw [← BitVec.ofNat_add, show r + 1280 - w + w = r + 1280 by omega, BitVec.ofNat_add]
    bv_omega
  have := clip_small ⟨r + 1280 - w, by omega⟩
  simp only at this
  rw [h, this]
  congr 1
  show min (r + 1280 - w - 640) 256 = min (r + 640 - w) 256
  omega

/-- jnp's wrap of negative column numbers does nothing to a column number. -/
theorem wrap_small : ∀ x : Fin 257,
    Scalar.select (IntOp.cmpi .slt (BitVec.ofNat 32 x.val) 0#32) (IntOp.addi (BitVec.ofNat 32 x.val) 257#32) (BitVec.ofNat 32 x.val)
      = BitVec.ofNat 32 x.val := by decide +kernel

/-- The pattern of minus infinity is the least extended real. -/
theorem ofBits_ninf : Ideal.ofBits .f32 0xFF800000#32 = ⊥ := by simp [Ideal.ofBits, Ideal.ieee]

/-- The pattern of plus infinity is the greatest extended real. -/
theorem ofBits_pinf : Ideal.ofBits .f32 0x7F800000#32 = ⊤ := by simp [Ideal.ofBits, Ideal.ieee]

/-- The sign of a word. -/
def sg (x : BitVec 32) : BitVec 32 := if x = 0 then 0 else if x.msb then -1 else 1

/-- jnp's floor division by 64 on a word, as it prints: the quotient, less one when the signs differ and the remainder
    is not zero. -/
def fd64 (x : BitVec 32) : BitVec 32 :=
  Scalar.select (IntOp.andi (IntOp.cmpi .ne (sg x) (sg 64#32)) (IntOp.cmpi .ne (IntOp.remsi .host x 64#32) 0#32))
    (IntOp.subi (IntOp.divsi .host x 64#32) 1#32) (IntOp.divsi .host x 64#32)

/-- On words that hold naturals below 1024 it is the natural quotient. -/
theorem fd64_small : ∀ x : Fin 1024, fd64 (BitVec.ofNat 32 x.val) = BitVec.ofNat 32 (x.val / 64) := by decide +kernel

/-- The band's condition on chunk numbers, as a bit. -/
theorem band_bits : ∀ (a : Fin 32) (b : Fin 32),
    IntOp.andi (IntOp.cmpi .sle (BitVec.ofNat 32 b.val) (BitVec.ofNat 32 a.val))
      (IntOp.cmpi .sge (BitVec.ofNat 32 b.val) (IntOp.subi (BitVec.ofNat 32 a.val) 8#32))
      = if b.val ≤ a.val ∧ a.val ≤ b.val + 8 then 1#1 else 0#1 := by decide +kernel

end Cert.Words

end
-- ==== Proof.Att.lean ====
module

public import proofs.«01_k».proof.Proof.Softmax
public import proofs.«01_k».proof.Proof.Words
public import Idealize.ShloMosaic.Lib.Pointwise

@[expose] public section

set_option maxRecDepth 16384

noncomputable section

/-! The local attention as one formula over queries, keys, values and biases: every query is softmax-weighted over the
    576 keys which end with its own chunk of 64; keys before the start of the sequence have the logit −∞. -/

namespace Cert.Att

open Cert.Softmax Cert.Words Idealize.ShloMosaic Idealize.ShloMosaic.TcCoe Idealize.SL.Sem

/-- The shape of queries, keys and values. -/
abbrev SX : Shape := ⟨3, ![4, 8192, 512]⟩
/-- The shape of the biases. -/
abbrev SB : Shape := ⟨3, ![1, 8, 257]⟩

variable (Q K V : SX.Idx → EReal) (B : SB.Idx → EReal)

/-- The logit of the query in row `s` against the key at place `j` of its window, in the head of lane `g`. -/
def lg (b : Fin 4) (s : Fin 8192) (g : Fin 512) (j : Fin 576) : EReal :=
  if h : 512 ≤ s.val / 64 * 64 + j.val then
    (∑ d : Fin 64, Q (ix3 b s ⟨g.val / 64 * 64 + d.val, by omega⟩)
      * K (ix3 b ⟨s.val / 64 * 64 + j.val - 512, by omega⟩ ⟨g.val / 64 * 64 + d.val, by omega⟩))
      + B (ix3 0 ⟨g.val / 64, by omega⟩ (col (s.val % 64) j.val))
  else ⊥

/-- The value at place `j` of the window, in lane `g`; zero before the start of the sequence. -/
def vv (b : Fin 4) (s : Fin 8192) (g : Fin 512) (j : Fin 576) : EReal :=
  if h : 512 ≤ s.val / 64 * 64 + j.val then V (ix3 b ⟨s.val / 64 * 64 + j.val - 512, by omega⟩ g) else 0

/-- The attention at batch `b`, row `s`, lane `g`. -/
def att (b : Fin 4) (s : Fin 8192) (g : Fin 512) : EReal := soft (lg Q K B b s g) (vv V b s g)

/-- The attention as an array. -/
def attArr : SX.Idx → EReal := fun i => att Q K V B (i 0) (i 1) (i 2)

end Cert.Att

namespace Cert.Softmax

open Idealize.ShloMosaic

/-- Values count only where the logit is not −∞. -/
theorem soft_congr {n : ℕ} (lg lg' vv vv' : Fin n → EReal) (hl : ∀ j, lg j = lg' j) (hv : ∀ j, lg j ≠ ⊥ → vv j = vv' j) :
    soft lg vv = soft lg' vv' := by
  obtain rfl : lg = lg' := funext hl
  unfold soft
  congr 1
  refine Finset.sum_congr rfl fun j _ => ?_
  by_cases h : lg j = ⊥
  · rw [h, EReal.bot_sub, show Ideal.exp ⊥ = 0 from rfl, zero_mul, zero_mul]
  · rw [hv j h]

end Cert.Softmax

end
-- ==== Proof.Pair.lean ====
module

public import proofs.«01_k».proof.Proof.Gen.KernelIdeal.Frame
public import proofs.«01_k».proof.Proof.Softmax
public import proofs.«01_k».proof.Proof.Words
public import Idealize.ShloMosaic.Lib.Pointwise

@[expose] public section

set_option maxRecDepth 16384

noncomputable section

/-! What the kernel stores for one pair of heads, as one function of the loaded blocks, and that function read at an
    index: two softmax-weighted sums over the window of 768 keys, one per half of the 128 lanes. -/

namespace Cert.KernelIdeal.Pair

open Cert.KernelIdeal Cert.KernelIdeal.Gen Cert.Softmax Cert.Words Idealize.ShloMosaic Idealize.ShloMosaic.TcCoe Idealize.SL.Sem

/-- The scores of one key block: queries against keys, plus biases. -/
def scores (q : FVec Ideal S256x128 .bf16) (k : FVec Ideal S256x128 .bf16) (b : FVec Ideal S256x256 .f32) : FVec Ideal S256x256 .f32 :=
  addf (matmul dot_S256x128_S256x128_S256x256_1_1_0_0_n_n none q k (constant S256x256 .f32 0x00000000#32)) b

/-- The row maxima of one score block. -/
def rowMax (s : FVec Ideal S256x256 .f32) : FVec Ideal S256x1 .f32 :=
  shapeCast S256x1 (multiReduction .maximumf [1] S256 s 0xFF800000#32 reduces_S256x256_S256 (.inl rfl) rfl) shapeCasts_S256_S256x1

/-- The row sums of one weight block. -/
def rowSum (s : FVec Ideal S256x256 .f32) : FVec Ideal S256x1 .f32 :=
  shapeCast S256x1 (multiReduction .add [1] S256 s 0x00000000#32 reduces_S256x256_S256 (.inl rfl) rfl) shapeCasts_S256_S256x1

/-- The unnormalised weights of one score block. -/
def wts (s : FVec Ideal S256x256 .f32) (M : FVec Ideal S256x1 .f32) : FVec Ideal S256x256 .f32 :=
  exp (subf s (broadcastTo S256x256 M broadcasts_S256x1_S256x256))

/-- One weight block against its value block. -/
def pv (p : FVec Ideal S256x256 .f32) (v : FVec Ideal S256x128 .bf16) : FVec Ideal S256x128 .f32 :=
  matmul dot_S256x256_S256x128_S256x128_1_0_0_1_n_n none (truncf .bf16 p bitsLt_bf16_f32) v (constant S256x128 .f32 0x00000000#32)

/-- One head over its three score blocks and value blocks. -/
def head (s0 s1 s2 : FVec Ideal S256x256 .f32) (v0 v1 v2 : FVec Ideal S256x128 .bf16) : FVec Ideal S256x128 .f32 :=
  have M := maximumf (maximumf (rowMax s0) (rowMax s1)) (rowMax s2)
  divf (addf (addf (pv (wts s0 M) v0) (pv (wts s1 M) v1)) (pv (wts s2 M) v2))
    (broadcastTo S256x128 (addf (addf (rowSum (wts s0 M)) (rowSum (wts s1 M))) (rowSum (wts s2 M))) broadcasts_S256x1_S256x128)

/-- A loaded key or value block. -/
def kvB (x : FVec Ideal S1x256x128 .f32) : FVec Ideal S256x128 .bf16 :=
  truncf .bf16 (shapeCast S256x128 x shapeCasts_S1x256x128_S256x128) bitsLt_bf16_f32

/-- A loaded tile of the table, with its block's penalty. -/
def biasP (p : Ideal .f32) (x : FVec Ideal S1x256x256 .f32) : FVec Ideal S256x256 .f32 :=
  addf (shapeCast S256x256 x shapeCasts_S1x256x256_S256x256) (broadcast S256x256 p)

/-- A loaded tile of the table. -/
def bias (x : FVec Ideal S1x256x256 .f32) : FVec Ideal S256x256 .f32 := shapeCast S256x256 x shapeCasts_S1x256x256_S256x256

/-- The queries with the upper lanes cleared. -/
def qLo (q : FVec Ideal S256x128 .bf16) : FVec Ideal S256x128 .bf16 :=
  select k0_pay2 q (broadcast S256x128 (Scalar.ofBits .bf16 0x0000#16))

/-- The queries with the lower lanes cleared. -/
def qHi (q : FVec Ideal S256x128 .bf16) : FVec Ideal S256x128 .bf16 :=
  select (xori k0_pay2 (constantI S256x128 1 1#1)) q (broadcast S256x128 (Scalar.ofBits .bf16 0x0000#16))

/-- What the kernel stores for one pair of heads. -/
def pairOps (p0 p1 : Ideal .f32) (q : FVec Ideal S1x256x128 .bf16) (k0 k1 k2 v0 v1 v2 : FVec Ideal S1x256x128 .f32)
    (a0 a1 a2 b0 b1 b2 : FVec Ideal S1x256x256 .f32) : FVec Ideal S1x256x128 .bf16 :=
  have q2 := shapeCast S256x128 q shapeCasts_S1x256x128_S256x128
  shapeCast S1x256x128
    (truncf .bf16
      (select k0_pay2
        (head (scores (qLo q2) (kvB k0) (biasP p0 a0)) (scores (qLo q2) (kvB k1) (biasP p1 a1)) (scores (qLo q2) (kvB k2) (bias a2))
          (kvB v0) (kvB v1) (kvB v2))
        (head (scores (qHi q2) (kvB k0) (biasP p0 b0)) (scores (qHi q2) (kvB k1) (biasP p1 b1)) (scores (qHi q2) (kvB k2) (bias b2))
          (kvB v0) (kvB v1) (kvB v2)))
      bitsLt_bf16_f32) shapeCasts_S256x128_S1x256x128

theorem rowMax_apply (s : FVec Ideal S256x256 .f32) (r : Fin 256) : rowMax s (ix2 r 0) = mx fun o => s (ix2 r o) := by
  unfold rowMax mx
  pointwise
  try rw [ofBits_ninf]

theorem rowSum_apply (s : FVec Ideal S256x256 .f32) (r : Fin 256) : rowSum s (ix2 r 0) = ∑ o, s (ix2 r o) := by
  unfold rowSum
  pointwise

theorem wts_apply (s : FVec Ideal S256x256 .f32) (M : FVec Ideal S256x1 .f32) (r o : Fin 256) :
    wts s M (ix2 r o) = Ideal.exp (s (ix2 r o) - M (ix2 r 0)) := by
  unfold wts
  pointwise

theorem pv_apply (p : FVec Ideal S256x256 .f32) (v : FVec Ideal S256x128 .bf16) (r : Fin 256) (l : Fin 128) :
    pv p v (ix2 r l) = ∑ o, p (ix2 r o) * v (ix2 o l) := by
  unfold pv
  pointwise
  try simp

/-- One head at an index is the softmax-weighted sum over the window. -/
theorem head_apply (s0 s1 s2 : FVec Ideal S256x256 .f32) (v0 v1 v2 : FVec Ideal S256x128 .bf16) (r : Fin 256) (l : Fin 128)
    (lg vv : Fin 768 → EReal)
    (hs0 : ∀ o : Fin 256, s0 (ix2 r o) = lg ⟨o.val, by omega⟩) (hs1 : ∀ o : Fin 256, s1 (ix2 r o) = lg ⟨256 + o.val, by omega⟩)
    (hs2 : ∀ o : Fin 256, s2 (ix2 r o) = lg ⟨512 + o.val, by omega⟩)
    (hv0 : ∀ o : Fin 256, v0 (ix2 o l) = vv ⟨o.val, by omega⟩) (hv1 : ∀ o : Fin 256, v1 (ix2 o l) = vv ⟨256 + o.val, by omega⟩)
    (hv2 : ∀ o : Fin 256, v2 (ix2 o l) = vv ⟨512 + o.val, by omega⟩) :
    head s0 s1 s2 v0 v1 v2 (ix2 r l) = soft lg vv := by
  rw [← soft_three lg vv _ rfl]
  unfold head
  pointwise [rowMax_apply, rowSum_apply, wts_apply, pv_apply, hs0, hs1, hs2, hv0, hv1, hv2]

theorem lane_small : ∀ l : Fin 128, IntOp.cmpi .slt (BitVec.ofNat 32 l.val) 64#32 = if l.val < 64 then 1#1 else 0#1 := by
  decide +kernel

theorem lane_bit (r : Fin 256) (l : Fin 128) : k0_pay2 (ix2 r l) = if l.val < 64 then 1#1 else 0#1 := by
  rw [← lane_small l]
  unfold k0_pay2
  pointwise

theorem qLo_apply (q : FVec Ideal S256x128 .bf16) (r : Fin 256) (d : Fin 128) :
    qLo q (ix2 r d) = if d.val < 64 then q (ix2 r d) else (0 : EReal) := by
  unfold qLo
  pointwise [lane_bit]
  by_cases h : d.val < 64
  · rw [if_pos h, if_pos h]; rfl
  · rw [if_neg h, if_neg h]; simp [Scalar.select, Scalar.ofBits, Ideal.ofBits, Ideal.ieee]

theorem qHi_apply (q : FVec Ideal S256x128 .bf16) (r : Fin 256) (d : Fin 128) :
    qHi q (ix2 r d) = if d.val < 64 then (0 : EReal) else q (ix2 r d) := by
  unfold qHi
  pointwise [lane_bit]
  by_cases h : d.val < 64
  · rw [if_pos h, if_pos h]; simp [Scalar.select, Scalar.ofBits, Ideal.ofBits, Ideal.ieee, IntOp.xori]
  · rw [if_neg h, if_neg h]; simp [Scalar.select, Scalar.ofBits, Ideal.ofBits, Ideal.ieee, IntOp.xori]

theorem scores_apply (q k : FVec Ideal S256x128 .bf16) (b : FVec Ideal S256x256 .f32) (r o : Fin 256) :
    scores q k b (ix2 r o) = (∑ d : Fin 128, q (ix2 r d) * k (ix2 o d)) + b (ix2 r o) := by
  unfold scores
  pointwise

/-- The scores with the upper lanes cleared: a product over the lower 64 lanes. -/
theorem scoresLo (q k : FVec Ideal S256x128 .bf16) (b : FVec Ideal S256x256 .f32) (r o : Fin 256) :
    scores (qLo q) k b (ix2 r o)
      = (∑ d : Fin 64, q (ix2 r ⟨d.val, by omega⟩) * k (ix2 o ⟨d.val, by omega⟩)) + b (ix2 r o) := by
  rw [scores_apply, Fin.sum_univ_add (a := 64) (b := 64)]
  refine congrArg (· + b (ix2 r o)) ?_
  have hz : (∑ i : Fin 64, qLo q (ix2 r (Fin.natAdd 64 i)) * k (ix2 o (Fin.natAdd 64 i))) = 0 :=
    Finset.sum_eq_zero fun i _ => by
      rw [qLo_apply, if_neg (show ¬ (Fin.natAdd 64 i).val < 64 by simp), zero_mul]
  rw [hz, add_zero]
  refine Finset.sum_congr rfl fun d _ => ?_
  rw [qLo_apply, if_pos (show (Fin.castAdd 64 d).val < 64 from d.isLt)]
  rfl

/-- The scores with the lower lanes cleared: a product over the upper 64 lanes. -/
theorem scoresHi (q k : FVec Ideal S256x128 .bf16) (b : FVec Ideal S256x256 .f32) (r o : Fin 256) :
    scores (qHi q) k b (ix2 r o)
      = (∑ d : Fin 64, q (ix2 r ⟨64 + d.val, by omega⟩) * k (ix2 o ⟨64 + d.val, by omega⟩)) + b (ix2 r o) := by
  rw [scores_apply, Fin.sum_univ_add (a := 64) (b := 64)]
  refine congrArg (· + b (ix2 r o)) ?_
  have hz : (∑ i : Fin 64, qHi q (ix2 r (Fin.castAdd 64 i)) * k (ix2 o (Fin.castAdd 64 i))) = 0 :=
    Finset.sum_eq_zero fun i _ => by
      rw [qHi_apply, if_pos (show (Fin.castAdd 64 i).val < 64 from i.isLt), zero_mul]
  rw [hz, zero_add]
  refine Finset.sum_congr rfl fun d _ => ?_
  rw [qHi_apply, if_neg (show ¬ (Fin.natAdd 64 d).val < 64 by simp)]
  rfl

theorem kvB_apply (x : FVec Ideal S1x256x128 .f32) (o : Fin 256) (l : Fin 128) : kvB x (ix2 o l) = x (ix3 0 o l) := by
  unfold kvB
  pointwise

theorem biasP_apply (p : Ideal .f32) (x : FVec Ideal S1x256x256 .f32) (r o : Fin 256) :
    biasP p x (ix2 r o) = (show EReal from x (ix3 0 r o)) + (show EReal from p) := by
  unfold biasP
  pointwise

theorem bias_apply (x : FVec Ideal S1x256x256 .f32) (r o : Fin 256) : bias x (ix2 r o) = x (ix3 0 r o) := by
  unfold bias
  pointwise

/-- THE PAIR AT AN INDEX: in either half of the lanes, the softmax-weighted sum over the window of 768 keys, whose logits
    are the products over that half's 64 lanes plus the half's own tiles of the table plus the blocks' penalties. -/
theorem pairOps_apply (p0 p1 : Ideal .f32) (q : FVec Ideal S1x256x128 .bf16) (k0 k1 k2 v0 v1 v2 : FVec Ideal S1x256x128 .f32)
    (a0 a1 a2 b0 b1 b2 : FVec Ideal S1x256x256 .f32) (r : Fin 256) (l : Fin 128) (lg vv : Fin 768 → EReal)
    (hs0 : ∀ o : Fin 256, (∑ d : Fin 64, (show EReal from q (ix3 0 r ⟨l.val / 64 * 64 + d.val, by omega⟩)) * (show EReal from k0 (ix3 0 o ⟨l.val / 64 * 64 + d.val, by omega⟩)))
      + ((show EReal from if l.val < 64 then a0 (ix3 0 r o) else b0 (ix3 0 r o)) + (show EReal from p0)) = lg ⟨o.val, by omega⟩)
    (hs1 : ∀ o : Fin 256, (∑ d : Fin 64, (show EReal from q (ix3 0 r ⟨l.val / 64 * 64 + d.val, by omega⟩)) * (show EReal from k1 (ix3 0 o ⟨l.val / 64 * 64 + d.val, by omega⟩)))
      + ((show EReal from if l.val < 64 then a1 (ix3 0 r o) else b1 (ix3 0 r o)) + (show EReal from p1)) = lg ⟨256 + o.val, by omega⟩)
    (hs2 : ∀ o : Fin 256, (∑ d : Fin 64, (show EReal from q (ix3 0 r ⟨l.val / 64 * 64 + d.val, by omega⟩)) * (show EReal from k2 (ix3 0 o ⟨l.val / 64 * 64 + d.val, by omega⟩)))
      + (show EReal from if l.val < 64 then a2 (ix3 0 r o) else b2 (ix3 0 r o)) = lg ⟨512 + o.val, by omega⟩)
    (hv0 : ∀ o : Fin 256, v0 (ix3 0 o l) = vv ⟨o.val, by omega⟩) (hv1 : ∀ o : Fin 256, v1 (ix3 0 o l) = vv ⟨256 + o.val, by omega⟩)
    (hv2 : ∀ o : Fin 256, v2 (ix3 0 o l) = vv ⟨512 + o.val, by omega⟩) :
    pairOps p0 p1 q k0 k1 k2 v0 v1 v2 a0 a1 a2 b0 b1 b2 (ix3 0 r l) = soft lg vv := by
  unfold pairOps
  pointwise [lane_bit]
  by_cases h : l.val < 64
  · have e : l.val / 64 * 64 = 0 := by omega
    simp only [e, Nat.zero_add, if_pos h] at hs0 hs1 hs2
    rw [if_pos h]
    refine Eq.trans rfl (head_apply _ _ _ _ _ _ r l lg vv (fun o => ?_) (fun o => ?_) (fun o => ?_) (fun o => ?_) (fun o => ?_) (fun o => ?_))
    · rw [scoresLo, biasP_apply, ← hs0 o]
      pointwise [kvB_apply]
    · rw [scoresLo, biasP_apply, ← hs1 o]
      pointwise [kvB_apply]
    · rw [scoresLo, bias_apply, ← hs2 o]
      pointwise [kvB_apply]
    · rw [kvB_apply, hv0 o]
    · rw [kvB_apply, hv1 o]
    · rw [kvB_apply, hv2 o]
  · have e : l.val / 64 * 64 = 64 := by omega
    simp only [e, if_neg h] at hs0 hs1 hs2
    rw [if_neg h]
    refine Eq.trans rfl (head_apply _ _ _ _ _ _ r l lg vv (fun o => ?_) (fun o => ?_) (fun o => ?_) (fun o => ?_) (fun o => ?_) (fun o => ?_))
    · rw [scoresHi, biasP_apply, ← hs0 o]
      pointwise [kvB_apply]
    · rw [scoresHi, biasP_apply, ← hs1 o]
      pointwise [kvB_apply]
    · rw [scoresHi, bias_apply, ← hs2 o]
      pointwise [kvB_apply]
    · rw [kvB_apply, hv0 o]
    · rw [kvB_apply, hv1 o]
    · rw [kvB_apply, hv2 o]

end Cert.KernelIdeal.Pair

end
-- ==== Proof.Table.lean ====
module

public import proofs.«01_k».proof.Proof.Gen.KernelIdeal.Frame
public import proofs.«01_k».proof.Proof.Words
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

/-! The kernel's table of biases plus band penalties, which the host builds before the launch, read at an index. -/

namespace Cert.KernelIdeal.Table

open Cert.KernelIdeal Cert.KernelIdeal.Gen Cert.Words Idealize.ShloMosaic Idealize.ShloMosaic.TcCoe Idealize.SL.Sem

variable (m : (ℓ : Loc nD τ sig) → Buf (Elt Ideal) ℓ)

/-- jnp's floor division by 64 of an array of words, as it prints. -/
def fdv {s : Shape} (hb : S_.BroadcastsInDim s (![] : Fin 0 → Fin s.rank)) (x : IVec s 32) : IVec s 32 :=
  select
    (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))

theorem fdv_apply {s : Shape} (hb : S_.BroadcastsInDim s (![] : Fin 0 → Fin s.rank)) (x : IVec s 32) (j : s.Idx) :
    fdv hb x j = fd64 (x j) := rfl

/-- The chunk numbers of the window's 768 keys. -/
def kcV : IVec S1x768 32 := fdv bcast_S_S1x768 (broadcastInDim S1x768 ![1] bcast_S768_S1x768_1 (iotaInDim S768 32 0))

/-- The chunk numbers of the tile's 256 queries. -/
def qcV : IVec S256x1 32 :=
  fdv bcast_S_S256x1 (addi (broadcastInDim S256x1 ![0] bcast_S256_S256x1_0 (iotaInDim S256 32 0))
    (broadcastInDim S256x1 ![] bcast_S_S256x1 (constantI S_ 32 512#32)))

theorem kcV_apply (w : Fin 768) : kcV (ix2 0 w) = BitVec.ofNat 32 (w.val / 64) := by
  unfold kcV
  rw [fdv_apply]
  pointwise
  exact fd64_small ⟨w.val, by omega⟩

theorem qcV_apply (r : Fin 256) : qcV (ix2 r 0) = BitVec.ofNat 32 ((r.val + 512) / 64) := by
  unfold qcV
  rw [fdv_apply]
  pointwise
  have := fd64_small ⟨r.val + 512, by omega⟩
  rw [← this]
  congr 1
  show BitVec.ofNat 32 r.val + 512#32 = BitVec.ofNat 32 (r.val + 512)
  rw [BitVec.ofNat_add]

/-- The band's penalties: zero on the band, `⊥` off it. -/
def bandV : FVec Ideal S256x768 .f32 :=
  select
    (andi
      (cmpi .sle (broadcastInDim S256x768 ![0, 1] bcast_S1x768_S256x768_0_1 kcV)
        (broadcastInDim S256x768 ![0, 1] bcast_S256x1_S256x768_0_1 qcV))
      (cmpi .sge (broadcastInDim S256x768 ![0, 1] bcast_S1x768_S256x768_0_1 kcV)
        (broadcastInDim S256x768 ![0, 1] bcast_S256x1_S256x768_0_1
          (subi qcV (broadcastInDim S256x1 ![] bcast_S_S256x1 (constantI S_ 32 8#32))))))
    (broadcastInDim S256x768 ![] bcast_S_S256x768 (constant S_ .f32 0x00000000#32))
    (broadcastInDim S256x768 ![] bcast_S_S256x768 (constant S_ .f32 0xFF800000#32))

/-- Key `w` of the window lies in the band of query row `r`. -/
def InBand (r w : ℕ) : Prop := w / 64 ≤ (r + 512) / 64 ∧ (r + 512) / 64 ≤ w / 64 + 8

instance (r w : ℕ) : Decidable (InBand r w) := inferInstanceAs (Decidable (_ ∧ _))

theorem bandV_apply (r : Fin 256) (w : Fin 768) : bandV (ix2 r w) = if InBand r.val w.val then (0 : EReal) else ⊥ := by
  unfold bandV
  pointwise [kcV_apply, qcV_apply]
  have hbits := band_bits ⟨(r.val + 512) / 64, by omega⟩ ⟨w.val / 64, by omega⟩
  simp only at hbits
  rw [hbits]
  rw [ofBits_ninf]
  by_cases h : InBand r.val w.val
  · rw [if_pos h, if_pos (show w.val / 64 ≤ (r.val + 512) / 64 ∧ (r.val + 512) / 64 ≤ w.val / 64 + 8 from h)]; rfl
  · rw [if_neg h, if_neg (show ¬ (w.val / 64 ≤ (r.val + 512) / 64 ∧ (r.val + 512) / 64 ≤ w.val / 64 + 8) from h)]; rfl

/-- The column numbers of the bias table, before jnp's wrap of negative indices. -/
def colV : IVec S256x768 32 :=
  addi
    (minsi (broadcastInDim S256x768 ![] bcast_S_S256x768 (id (constantI S_ 32 128#32)))
      (maxsi (broadcastInDim S256x768 ![] bcast_S_S256x768 (id (constantI S_ 32 4294967168#32)))
        (subi
          (broadcastInDim S256x768 ![0, 1] bcast_S256x1_S256x768_0_1
            (addi (broadcastInDim S256x1 ![0] bcast_S256_S256x1_0 (iotaInDim S256 32 0))
              (broadcastInDim S256x1 ![] bcast_S_S256x1 (constantI S_ 32 512#32))))
          (broadcastInDim S256x768 ![0, 1] bcast_S1x768_S256x768_0_1
            (broadcastInDim S1x768 ![1] bcast_S768_S1x768_1 (iotaInDim S768 32 0))))))
    (broadcastInDim S256x768 ![] bcast_S_S256x768 (constantI S_ 32 128#32))

theorem colV_apply (r : Fin 256) (w : Fin 768) : colV (ix2 r w) = BitVec.ofNat 32 (col r.val w.val).val := by
  rw [← clip_word r.val w.val r.isLt w.isLt]
  unfold colV
  pointwise
  rfl

/-- The wrapped column numbers, one per entry of the table. -/
def idxV : IVec S256x768x1 32 :=
  broadcastInDim S256x768x1 ![0, 1] bcast_S256x768_S256x768x1_0_1
    (select (cmpi .slt colV (broadcastInDim S256x768 ![] bcast_S_S256x768 (constantI S_ 32 0#32)))
      (addi colV (broadcastInDim S256x768 ![] bcast_S_S256x768 (constantI S_ 32 257#32))) colV)

theorem idxV_apply (r : Fin 256) (w : Fin 768) : idxV (ix3 r w 0) = BitVec.ofNat 32 (col r.val w.val).val := by
  unfold idxV
  pointwise [colV_apply]
  exact wrap_small _

/-- THE TABLE AT AN INDEX: the head's bias at the clipped distance, plus the band's penalty. -/
theorem table_apply (c : Dev nD) (h : Fin 8) (r : Fin 256) (w : Fin 768) :
    V m c main_v41 (ix3 h r w)
      = (show EReal from m ((c.tc : Thread nD τ).loc main_arg3) (ix3 0 h (col r.val w.val)))
        + (if InBand r.val w.val then (0 : EReal) else ⊥) := by
  simp only [V, hostOps0, hostOps0_1, hostOps0_2, hostOps0_3, hostOps0_4, hostOps0_5, hostOps0_6, hostOps0_7, hostOps0_8,
    List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp <;> (try dsimp only [Matrix.cons_val]) <;> (try after_results_simp)
  refine Eq.trans (b := addf (Host.gather gather_S8x257_S256x768x1_S8x256x768_0_1_n_n_1_2_81
      (shapeCast S8x257 (m ((c.tc : Thread nD τ).loc main_arg3)) shapeCasts_S1x8x257_S8x257) idxV)
      (broadcastInDim S8x256x768 ![0, 1, 2] bcast_S1x256x768_S8x256x768_0_1_2
        (broadcastInDim S1x256x768 ![1, 2] bcast_S256x768_S1x256x768_1_2 bandV)) (ix3 h r w)) ?_ ?_
  · rfl
  · pointwise
    rw [bandV_apply]
    refine congrArg (· + _) ((gather_cols _ gather_S8x257_S256x768x1_S8x256x768_0_1_n_n_1_2_81_wf rfl _ idxV h r w (col r.val w.val) (idxV_apply r w) (by norm_num)).trans ?_)
    pointwise

end Cert.KernelIdeal.Table

end
-- ==== Proof.Window.lean ====
module

public import proofs.«01_k».proof.Proof.Att
public import proofs.«01_k».proof.Proof.Pair
public import proofs.«01_k».proof.Proof.Table

@[expose] public section

set_option maxRecDepth 16384

noncomputable section

/-! The kernel's window of 768 keys (three blocks of 256, the band and block penalties in the logits) against the
    window of 576 keys of the formula: the two give the same weighted sums. -/

namespace Cert.KernelIdeal.Window

open Cert.KernelIdeal Cert.KernelIdeal.Gen Cert.Att Cert.Softmax Cert.Words Cert.KernelIdeal.Table Cert.KernelIdeal.Pair
open Idealize.ShloMosaic Idealize.ShloMosaic.TcCoe Idealize.SL.Sem

variable (Q K V : SX.Idx → EReal) (B : SB.Idx → EReal)

/-- The row of the array which place `w` of the window of tile `i` reads. -/
def kr (i : Fin 32) (w : Fin 768) : Fin 8192 := ⟨(i.val + w.val / 256 - 2) * 256 + w.val % 256, by omega⟩

/-- The penalty of the block at place `w`. -/
def pen (i : Fin 32) (w : ℕ) : EReal := if 2 ≤ i.val + w / 256 then 0 else ⊥

/-- The kernel's logit at place `w` of its window. -/
def lgK (b : Fin 4) (i : Fin 32) (r : Fin 256) (g : Fin 512) (w : Fin 768) : EReal :=
  (∑ d : Fin 64, Q (ix3 b ⟨256 * i.val + r.val, by omega⟩ ⟨g.val / 64 * 64 + d.val, by omega⟩)
      * K (ix3 b (kr i w) ⟨g.val / 64 * 64 + d.val, by omega⟩))
    + ((B (ix3 0 ⟨g.val / 64, by omega⟩ (col r.val w.val)) + (if InBand r w then 0 else ⊥)) + pen i w.val)

/-- The value at place `w` of the kernel's window. -/
def vvK (b : Fin 4) (i : Fin 32) (g : Fin 512) (w : Fin 768) : EReal := V (ix3 b (kr i w) g)

/-- Place `j` of the formula's window, as a place of the kernel's. -/
def place (r : Fin 256) (j : Fin 576) : Fin 768 := ⟨64 * (r.val / 64) + j.val, by omega⟩

/-- The two windows give the same weighted sum. -/
theorem soft_window (b : Fin 4) (i : Fin 32) (r : Fin 256) (g : Fin 512) :
    soft (lgK Q K B b i r g) (vvK V b i g) = att Q K V B b ⟨256 * i.val + r.val, by omega⟩ g := by
  unfold att
  rw [soft_embed (place r) ?_ _ _ ?_]
  · refine soft_congr _ _ _ _ (fun j => ?_) (fun j hj => ?_)
    · have hb : InBand r (place r j) := by
        unfold InBand place
        dsimp only
        omega
      have hc : col r.val (place r j).val = col ((256 * i.val + r.val) % 64) j.val := by
        unfold col place
        apply Fin.ext
        dsimp only
        omega
      unfold lg
      show lgK Q K B b i r g (place r j) = _
      unfold lgK pen
      rw [if_pos hb, hc, add_zero]
      by_cases h : 512 ≤ (256 * i.val + r.val) / 64 * 64 + j.val
      · rw [dif_pos h, if_pos (show 2 ≤ i.val + (place r j).val / 256 by unfold place; dsimp only; omega), add_zero]
        have hk : kr i (place r j) = ⟨(256 * i.val + r.val) / 64 * 64 + j.val - 512, by omega⟩ := by
          unfold kr place
          apply Fin.ext
          dsimp only
          omega
        rw [hk]
      · rw [dif_neg h, if_neg (show ¬ 2 ≤ i.val + (place r j).val / 256 by unfold place; dsimp only; omega), EReal.add_bot, EReal.add_bot]
    · by_cases h : 512 ≤ (256 * i.val + r.val) / 64 * 64 + j.val
      · unfold vv
        rw [dif_pos h]
        show V (ix3 b (kr i (place r j)) g) = _
        have hk : kr i (place r j) = ⟨(256 * i.val + r.val) / 64 * 64 + j.val - 512, by omega⟩ := by
          unfold kr place
          apply Fin.ext
          dsimp only
          omega
        rw [hk]
      · refine absurd ?_ hj
        show lgK Q K B b i r g (place r j) = ⊥
        unfold lgK pen
        rw [if_neg (show ¬ 2 ≤ i.val + (place r j).val / 256 by unfold place; dsimp only; omega), EReal.add_bot, EReal.add_bot]
  · intro j j' h
    have := congrArg Fin.val h
    unfold place at this
    dsimp only at this
    exact Fin.ext (by omega)
  · intro w hw
    have hb : ¬ InBand r w := by
      unfold InBand
      intro hb
      refine hw ⟨w.val - 64 * (r.val / 64), by omega⟩ ?_
      unfold place
      apply Fin.ext
      dsimp only
      omega
    unfold lgK
    rw [if_neg hb, EReal.add_bot, EReal.bot_add, EReal.add_bot]

/-- One stored pair of heads, from what its loaded blocks hold: the attention at its rows and lanes. -/
theorem pair_val (b : Fin 4) (i : Fin 32) (p : Fin 4) (p0 p1 : Ideal .f32) (q : FVec Ideal S1x256x128 .bf16)
    (k0 k1 k2 v0 v1 v2 : FVec Ideal S1x256x128 .f32) (a0 a1 a2 b0 b1 b2 : FVec Ideal S1x256x256 .f32)
    (hp0 : p0 = pen i 0) (hp1 : p1 = pen i 256)
    (hq : ∀ (r : Fin 256) (l : Fin 128), q (ix3 0 r l) = Q (ix3 b ⟨256 * i.val + r.val, by omega⟩ ⟨128 * p.val + l.val, by omega⟩))
    (hk0 : ∀ (o : Fin 256) (l : Fin 128), k0 (ix3 0 o l) = K (ix3 b ⟨(i.val - 2) * 256 + o.val, by omega⟩ ⟨128 * p.val + l.val, by omega⟩))
    (hk1 : ∀ (o : Fin 256) (l : Fin 128), k1 (ix3 0 o l) = K (ix3 b ⟨(i.val - 1) * 256 + o.val, by omega⟩ ⟨128 * p.val + l.val, by omega⟩))
    (hk2 : ∀ (o : Fin 256) (l : Fin 128), k2 (ix3 0 o l) = K (ix3 b ⟨i.val * 256 + o.val, by omega⟩ ⟨128 * p.val + l.val, by omega⟩))
    (hv0 : ∀ (o : Fin 256) (l : Fin 128), v0 (ix3 0 o l) = V (ix3 b ⟨(i.val - 2) * 256 + o.val, by omega⟩ ⟨128 * p.val + l.val, by omega⟩))
    (hv1 : ∀ (o : Fin 256) (l : Fin 128), v1 (ix3 0 o l) = V (ix3 b ⟨(i.val - 1) * 256 + o.val, by omega⟩ ⟨128 * p.val + l.val, by omega⟩))
    (hv2 : ∀ (o : Fin 256) (l : Fin 128), v2 (ix3 0 o l) = V (ix3 b ⟨i.val * 256 + o.val, by omega⟩ ⟨128 * p.val + l.val, by omega⟩))
    (ha0 : ∀ r o : Fin 256, a0 (ix3 0 r o) = B (ix3 0 ⟨2 * p.val, by omega⟩ (col r.val o.val)) + (if InBand r o.val then 0 else ⊥))
    (ha1 : ∀ r o : Fin 256, a1 (ix3 0 r o) = B (ix3 0 ⟨2 * p.val, by omega⟩ (col r.val (256 + o.val))) + (if InBand r (256 + o.val) then 0 else ⊥))
    (ha2 : ∀ r o : Fin 256, a2 (ix3 0 r o) = B (ix3 0 ⟨2 * p.val, by omega⟩ (col r.val (512 + o.val))) + (if InBand r (512 + o.val) then 0 else ⊥))
    (hb0 : ∀ r o : Fin 256, b0 (ix3 0 r o) = B (ix3 0 ⟨2 * p.val + 1, by omega⟩ (col r.val o.val)) + (if InBand r o.val then 0 else ⊥))
    (hb1 : ∀ r o : Fin 256, b1 (ix3 0 r o) = B (ix3 0 ⟨2 * p.val + 1, by omega⟩ (col r.val (256 + o.val))) + (if InBand r (256 + o.val) then 0 else ⊥))
    (hb2 : ∀ r o : Fin 256, b2 (ix3 0 r o) = B (ix3 0 ⟨2 * p.val + 1, by omega⟩ (col r.val (512 + o.val))) + (if InBand r (512 + o.val) then 0 else ⊥))
    (r : Fin 256) (l : Fin 128) :
    pairOps p0 p1 q k0 k1 k2 v0 v1 v2 a0 a1 a2 b0 b1 b2 (ix3 0 r l)
      = att Q K V B b ⟨256 * i.val + r.val, by omega⟩ ⟨128 * p.val + l.val, by omega⟩ := by
  rw [← soft_window]
  have hrow : ∀ (w : Fin 768) (n : ℕ) (hn : n < 8192), (i.val + w.val / 256 - 2) * 256 + w.val % 256 = n → kr i w = ⟨n, hn⟩ :=
    fun w n hn e => Fin.ext e
  have hlane : ∀ (d : Fin 64) (h1 : 128 * p.val + (l.val / 64 * 64 + d.val) < 512) (h2 : (128 * p.val + l.val) / 64 * 64 + d.val < 512),
      (⟨128 * p.val + (l.val / 64 * 64 + d.val), h1⟩ : Fin 512) = ⟨(128 * p.val + l.val) / 64 * 64 + d.val, h2⟩ :=
    fun d h1 h2 => Fin.ext (by dsimp only; omega)
  have hB : ∀ (a b : EReal) (cc : Fin 257) (z : EReal), a = B (ix3 0 ⟨2 * p.val, by omega⟩ cc) + z → b = B (ix3 0 ⟨2 * p.val + 1, by omega⟩ cc) + z →
      (if l.val < 64 then a else b) = B (ix3 0 ⟨(128 * p.val + l.val) / 64, by omega⟩ cc) + z := by
    intro a b cc z e1 e2
    by_cases h : l.val < 64
    · rw [if_pos h, e1]
      congr 3
      exact Fin.ext (by dsimp only; omega)
    · rw [if_neg h, e2]
      congr 3
      exact Fin.ext (by dsimp only; omega)
  have hs : ∀ (w : Fin 768) (n : ℕ) (hn : n < 8192) (a b' x : EReal),
      (i.val + w.val / 256 - 2) * 256 + w.val % 256 = n → x = pen i w.val →
      a = B (ix3 0 ⟨2 * p.val, by omega⟩ (col r.val w.val)) + (if InBand r w then 0 else ⊥) →
      b' = B (ix3 0 ⟨2 * p.val + 1, by omega⟩ (col r.val w.val)) + (if InBand r w then 0 else ⊥) →
      (∑ d : Fin 64, Q (ix3 b ⟨256 * i.val + r.val, by omega⟩ ⟨128 * p.val + (l.val / 64 * 64 + d.val), by omega⟩)
        * K (ix3 b ⟨n, hn⟩ ⟨128 * p.val + (l.val / 64 * 64 + d.val), by omega⟩)) + ((if l.val < 64 then a else b') + x)
        = lgK Q K B b i r ⟨128 * p.val + l.val, by omega⟩ w := by
    intro w n hn a b' x e1 e2 e3 e4
    unfold lgK
    rw [hB a b' _ _ e3 e4, e2, hrow w n hn e1]
    congr 1
    refine Finset.sum_congr rfl fun d _ => ?_
    rw [hlane d (by omega) (by omega)]
  refine pairOps_apply p0 p1 q k0 k1 k2 v0 v1 v2 a0 a1 a2 b0 b1 b2 r l _ _ (fun o => ?_) (fun o => ?_) (fun o => ?_) (fun o => ?_) (fun o => ?_) (fun o => ?_)
  · rw [← hs ⟨o.val, by omega⟩ ((i.val - 2) * 256 + o.val) (by omega) (a0 (ix3 0 r o)) (b0 (ix3 0 r o)) p0 (by dsimp only; omega)
      (by rw [hp0]; unfold pen; dsimp only; rw [show o.val / 256 = 0 / 256 by omega]) (ha0 r o) (hb0 r o)]
    simp only [hq, hk0]
  · rw [← hs ⟨256 + o.val, by omega⟩ ((i.val - 1) * 256 + o.val) (by omega) (a1 (ix3 0 r o)) (b1 (ix3 0 r o)) p1 (by dsimp only; omega)
      (by rw [hp1]; unfold pen; dsimp only; rw [show (256 + o.val) / 256 = 256 / 256 by omega]) (ha1 r o) (hb1 r o)]
    simp only [hq, hk1]
  · rw [← hs ⟨512 + o.val, by omega⟩ (i.val * 256 + o.val) (by omega) (a2 (ix3 0 r o)) (b2 (ix3 0 r o)) 0 (by dsimp only; omega)
      (by unfold pen; dsimp only; rw [if_pos (by omega)]) (ha2 r o) (hb2 r o), add_zero]
    simp only [hq, hk2]
  · rw [hv0]; unfold vvK; rw [hrow ⟨o.val, by omega⟩ ((i.val - 2) * 256 + o.val) (by omega) (by dsimp only; omega)]
  · rw [hv1]; unfold vvK; rw [hrow ⟨256 + o.val, by omega⟩ ((i.val - 1) * 256 + o.val) (by omega) (by dsimp only; omega)]
  · rw [hv2]; unfold vvK; rw [hrow ⟨512 + o.val, by omega⟩ (i.val * 256 + o.val) (by omega) (by dsimp only; omega)]

end Cert.KernelIdeal.Window

end
-- ==== Proof.Value.lean ====
module

public import proofs.«01_k».proof.Proof.Window
public import Idealize.ShloMosaic.Lib.Pipeline.ValueKit
public import Idealize.ShloMosaic.Lib.Claim

@[expose] public section

set_option maxRecDepth 16384

noncomputable section

/-! The kernel's result array is the attention formula over its arguments. -/

namespace Cert.KernelIdeal.AttValue

open Cert.KernelIdeal Cert.KernelIdeal.Gen Cert.Att Cert.Softmax Cert.Words Cert.KernelIdeal.Table Cert.KernelIdeal.Pair Cert.KernelIdeal.Window
open Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N,
    win0_0.index t = ![t.val / 32, t.val % 32, 0]
    ∧ win0_1.index t = ![t.val / 32, t.val % 32 - 2, 0] ∧ win0_2.index t = ![t.val / 32, t.val % 32 - 1, 0] ∧ win0_3.index t = ![t.val / 32, t.val % 32, 0]
    ∧ win0_4.index t = ![t.val / 32, t.val % 32 - 2, 0] ∧ win0_5.index t = ![t.val / 32, t.val % 32 - 1, 0] ∧ win0_6.index t = ![t.val / 32, t.val % 32, 0]
    ∧ win0_7.index t = ![0, 0, 0] ∧ win0_8.index t = ![t.val / 32, t.val % 32, 0] ∧ t.val / 32 < 4 ∧ (grid0.coords t 1).val = t.val % 32 :=
  (by decide +kernel : ∀ t : Fin grid0.N, _)

theorem pen_bit0 : ∀ i : Fin 32, Scalar.cmpi .sge (Scalar.addi (Scalar.subi (BitVec.ofNat 32 i.val) 2#32) 0#32) 0#32
    = if 2 ≤ i.val + 0 / 256 then 1#1 else 0#1 := by decide +kernel

theorem pen_bit1 : ∀ i : Fin 32, Scalar.cmpi .sge (Scalar.addi (Scalar.subi (BitVec.ofNat 32 i.val) 2#32) 1#32) 0#32
    = if 2 ≤ i.val + 256 / 256 then 1#1 else 0#1 := by decide +kernel

/-- The first block's penalty. -/
theorem pen0 (i : grid0.Coords) (n : Fin 32) (hn : (i 1).val = n.val) : k0_pay3 (F := Ideal) i = pen n 0 := by
  unfold k0_pay3 pen
  dsimp only
  rw [hn, pen_bit0 n]
  by_cases h : 2 ≤ n.val + 0 / 256
  · rw [if_pos h, if_pos h]; simp [Scalar.select, Scalar.ofBits, Ideal.ofBits, Ideal.ieee]
  · rw [if_neg h, if_neg h]; rfl

/-- The second block's penalty. -/
theorem pen1 (i : grid0.Coords) (n : Fin 32) (hn : (i 1).val = n.val) : k0_pay4 (F := Ideal) i = pen n 256 := by
  unfold k0_pay4 pen
  dsimp only
  rw [hn, pen_bit1 n]
  by_cases h : 2 ≤ n.val + 256 / 256
  · rw [if_pos h, if_pos h]; simp [Scalar.select, Scalar.ofBits, Ideal.ofBits, Ideal.ieee]
  · rw [if_neg h, if_neg h]; rfl

set_option maxHeartbeats 1600000 in
/-- What the body leaves in its block, from what its input blocks hold: the attention at the block's rows. -/
theorem out_val (Q K V : SX.Idx → EReal) (B : SB.Idx → EReal) (i : grid0.Coords) (b : Fin 4) (n : Fin 32) (hn : (i 1).val = n.val)
    (X0 : FVec Ideal S1x256x512 .bf16) (X1 X2 X3 X4 X5 X6 : FVec Ideal S1x256x512 .f32) (X7 : FVec Ideal S8x256x768 .f32)
    (hX0 : ∀ (o : Fin 256) (l : Fin 512), X0 (ix3 0 o l) = Q (ix3 b ⟨256 * n.val + o.val, by omega⟩ l))
    (hX1 : ∀ (o : Fin 256) (l : Fin 512), X1 (ix3 0 o l) = K (ix3 b ⟨(n.val - 2) * 256 + o.val, by omega⟩ l))
    (hX2 : ∀ (o : Fin 256) (l : Fin 512), X2 (ix3 0 o l) = K (ix3 b ⟨(n.val - 1) * 256 + o.val, by omega⟩ l))
    (hX3 : ∀ (o : Fin 256) (l : Fin 512), X3 (ix3 0 o l) = K (ix3 b ⟨n.val * 256 + o.val, by omega⟩ l))
    (hX4 : ∀ (o : Fin 256) (l : Fin 512), X4 (ix3 0 o l) = V (ix3 b ⟨(n.val - 2) * 256 + o.val, by omega⟩ l))
    (hX5 : ∀ (o : Fin 256) (l : Fin 512), X5 (ix3 0 o l) = V (ix3 b ⟨(n.val - 1) * 256 + o.val, by omega⟩ l))
    (hX6 : ∀ (o : Fin 256) (l : Fin 512), X6 (ix3 0 o l) = V (ix3 b ⟨n.val * 256 + o.val, by omega⟩ l))
    (hX7 : ∀ (h : Fin 8) (r : Fin 256) (w : Fin 768), X7 (ix3 h r w) = B (ix3 0 h (col r w)) + (if InBand r w then 0 else ⊥))
    (y : S1x256x512.Idx) :
    (show EReal from out0_8 (F := Ideal) i X0 X1 X2 X3 X4 X5 X6 X7 y) = att Q K V B b ⟨256 * n.val + (y 1).val, by have := (y 1).isLt; have h : (y 1).val < 256 := this; omega⟩ ⟨(y 2).val, (y 2).isLt⟩ := by
  unfold out0_8
  canon_tiles x h
  case piece0 =>
    idx_vars x
    refine Eq.trans (Eq.trans (b := pairOps (k0_pay3 i) (k0_pay4 i)
      (View.ld (Val := Elt Ideal) (e' := .bf16) X0 r0_21) (View.ld (Val := Elt Ideal) (e' := .f32) X1 r0_21) (View.ld (Val := Elt Ideal) (e' := .f32) X2 r0_21) (View.ld (Val := Elt Ideal) (e' := .f32) X3 r0_21) (View.ld (Val := Elt Ideal) (e' := .f32) X4 r0_21) (View.ld (Val := Elt Ideal) (e' := .f32) X5 r0_21) (View.ld (Val := Elt Ideal) (e' := .f32) X6 r0_21)
      (View.ld (Val := Elt Ideal) (e' := .f32) X7 r0_22) (View.ld (Val := Elt Ideal) (e' := .f32) X7 r0_23) (View.ld (Val := Elt Ideal) (e' := .f32) X7 r0_24) (View.ld (Val := Elt Ideal) (e' := .f32) X7 r0_25) (View.ld (Val := Elt Ideal) (e' := .f32) X7 r0_26) (View.ld (Val := Elt Ideal) (e' := .f32) X7 r0_27) (ix3 0 x1 x2)) ?_
      (pair_val Q K V B b n 3 _ _ _ _ _ _ _ _ _ _ _ _ _ _ _ (pen0 i n hn) (pen1 i n hn)
        ?_ ?_ ?_ ?_ ?_ ?_ ?_ ?_ ?_ ?_ ?_ ?_ ?_ x1 x2)) ?_
    · obtain rfl : x0 = 0 := Subsingleton.elim _ _
      rfl
    · exact fun r l => Eq.trans (by pointwise; blk_ext) (hX0 r ⟨128 * 3 + l.val, by omega⟩)
    · exact fun r l => Eq.trans (by pointwise; blk_ext) (hX1 r ⟨128 * 3 + l.val, by omega⟩)
    · exact fun r l => Eq.trans (by pointwise; blk_ext) (hX2 r ⟨128 * 3 + l.val, by omega⟩)
    · exact fun r l => Eq.trans (by pointwise; blk_ext) (hX3 r ⟨128 * 3 + l.val, by omega⟩)
    · exact fun r l => Eq.trans (by pointwise; blk_ext) (hX4 r ⟨128 * 3 + l.val, by omega⟩)
    · exact fun r l => Eq.trans (by pointwise; blk_ext) (hX5 r ⟨128 * 3 + l.val, by omega⟩)
    · exact fun r l => Eq.trans (by pointwise; blk_ext) (hX6 r ⟨128 * 3 + l.val, by omega⟩)
    · exact fun r o => Eq.trans (by pointwise; blk_ext) (hX7 6 r ⟨o.val, by omega⟩)
    · exact fun r o => Eq.trans (by pointwise; blk_ext) (hX7 6 r ⟨256 + o.val, by omega⟩)
    · exact fun r o => Eq.trans (by pointwise; blk_ext) (hX7 6 r ⟨512 + o.val, by omega⟩)
    · exact fun r o => Eq.trans (by pointwise; blk_ext) (hX7 7 r ⟨o.val, by omega⟩)
    · exact fun r o => Eq.trans (by pointwise; blk_ext) (hX7 7 r ⟨256 + o.val, by omega⟩)
    · exact fun r o => Eq.trans (by pointwise; blk_ext) (hX7 7 r ⟨512 + o.val, by omega⟩)
    · congr 1 <;> apply Fin.ext <;> (try dsimp only) <;> (try omega)
  case piece1 =>
    idx_vars x
    refine Eq.trans (Eq.trans (b := pairOps (k0_pay3 i) (k0_pay4 i)
      (View.ld (Val := Elt Ideal) (e' := .bf16) X0 r0_14) (View.ld (Val := Elt Ideal) (e' := .f32) X1 r0_14) (View.ld (Val := Elt Ideal) (e' := .f32) X2 r0_14) (View.ld (Val := Elt Ideal) (e' := .f32) X3 r0_14) (View.ld (Val := Elt Ideal) (e' := .f32) X4 r0_14) (View.ld (Val := Elt Ideal) (e' := .f32) X5 r0_14) (View.ld (Val := Elt Ideal) (e' := .f32) X6 r0_14)
      (View.ld (Val := Elt Ideal) (e' := .f32) X7 r0_15) (View.ld (Val := Elt Ideal) (e' := .f32) X7 r0_16) (View.ld (Val := Elt Ideal) (e' := .f32) X7 r0_17) (View.ld (Val := Elt Ideal) (e' := .f32) X7 r0_18) (View.ld (Val := Elt Ideal) (e' := .f32) X7 r0_19) (View.ld (Val := Elt Ideal) (e' := .f32) X7 r0_20) (ix3 0 x1 x2)) ?_
      (pair_val Q K V B b n 2 _ _ _ _ _ _ _ _ _ _ _ _ _ _ _ (pen0 i n hn) (pen1 i n hn)
        ?_ ?_ ?_ ?_ ?_ ?_ ?_ ?_ ?_ ?_ ?_ ?_ ?_ x1 x2)) ?_
    · obtain rfl : x0 = 0 := Subsingleton.elim _ _
      rfl
    · exact fun r l => Eq.trans (by pointwise; blk_ext) (hX0 r ⟨128 * 2 + l.val, by omega⟩)
    · exact fun r l => Eq.trans (by pointwise; blk_ext) (hX1 r ⟨128 * 2 + l.val, by omega⟩)
    · exact fun r l => Eq.trans (by pointwise; blk_ext) (hX2 r ⟨128 * 2 + l.val, by omega⟩)
    · exact fun r l => Eq.trans (by pointwise; blk_ext) (hX3 r ⟨128 * 2 + l.val, by omega⟩)
    · exact fun r l => Eq.trans (by pointwise; blk_ext) (hX4 r ⟨128 * 2 + l.val, by omega⟩)
    · exact fun r l => Eq.trans (by pointwise; blk_ext) (hX5 r ⟨128 * 2 + l.val, by omega⟩)
    · exact fun r l => Eq.trans (by pointwise; blk_ext) (hX6 r ⟨128 * 2 + l.val, by omega⟩)
    · exact fun r o => Eq.trans (by pointwise; blk_ext) (hX7 4 r ⟨o.val, by omega⟩)
    · exact fun r o => Eq.trans (by pointwise; blk_ext) (hX7 4 r ⟨256 + o.val, by omega⟩)
    · exact fun r o => Eq.trans (by pointwise; blk_ext) (hX7 4 r ⟨512 + o.val, by omega⟩)
    · exact fun r o => Eq.trans (by pointwise; blk_ext) (hX7 5 r ⟨o.val, by omega⟩)
    · exact fun r o => Eq.trans (by pointwise; blk_ext) (hX7 5 r ⟨256 + o.val, by omega⟩)
    · exact fun r o => Eq.trans (by pointwise; blk_ext) (hX7 5 r ⟨512 + o.val, by omega⟩)
    · congr 1 <;> apply Fin.ext <;> (try dsimp only) <;> (try omega)
  case piece2 =>
    idx_vars x
    refine Eq.trans (Eq.trans (b := pairOps (k0_pay3 i) (k0_pay4 i)
      (View.ld (Val := Elt Ideal) (e' := .bf16) X0 r0_7) (View.ld (Val := Elt Ideal) (e' := .f32) X1 r0_7) (View.ld (Val := Elt Ideal) (e' := .f32) X2 r0_7) (View.ld (Val := Elt Ideal) (e' := .f32) X3 r0_7) (View.ld (Val := Elt Ideal) (e' := .f32) X4 r0_7) (View.ld (Val := Elt Ideal) (e' := .f32) X5 r0_7) (View.ld (Val := Elt Ideal) (e' := .f32) X6 r0_7)
      (View.ld (Val := Elt Ideal) (e' := .f32) X7 r0_8) (View.ld (Val := Elt Ideal) (e' := .f32) X7 r0_9) (View.ld (Val := Elt Ideal) (e' := .f32) X7 r0_10) (View.ld (Val := Elt Ideal) (e' := .f32) X7 r0_11) (View.ld (Val := Elt Ideal) (e' := .f32) X7 r0_12) (View.ld (Val := Elt Ideal) (e' := .f32) X7 r0_13) (ix3 0 x1 x2)) ?_
      (pair_val Q K V B b n 1 _ _ _ _ _ _ _ _ _ _ _ _ _ _ _ (pen0 i n hn) (pen1 i n hn)
        ?_ ?_ ?_ ?_ ?_ ?_ ?_ ?_ ?_ ?_ ?_ ?_ ?_ x1 x2)) ?_
    · obtain rfl : x0 = 0 := Subsingleton.elim _ _
      rfl
    · exact fun r l => Eq.trans (by pointwise; blk_ext) (hX0 r ⟨128 * 1 + l.val, by omega⟩)
    · exact fun r l => Eq.trans (by pointwise; blk_ext) (hX1 r ⟨128 * 1 + l.val, by omega⟩)
    · exact fun r l => Eq.trans (by pointwise; blk_ext) (hX2 r ⟨128 * 1 + l.val, by omega⟩)
    · exact fun r l => Eq.trans (by pointwise; blk_ext) (hX3 r ⟨128 * 1 + l.val, by omega⟩)
    · exact fun r l => Eq.trans (by pointwise; blk_ext) (hX4 r ⟨128 * 1 + l.val, by omega⟩)
    · exact fun r l => Eq.trans (by pointwise; blk_ext) (hX5 r ⟨128 * 1 + l.val, by omega⟩)
    · exact fun r l => Eq.trans (by pointwise; blk_ext) (hX6 r ⟨128 * 1 + l.val, by omega⟩)
    · exact fun r o => Eq.trans (by pointwise; blk_ext) (hX7 2 r ⟨o.val, by omega⟩)
    · exact fun r o => Eq.trans (by pointwise; blk_ext) (hX7 2 r ⟨256 + o.val, by omega⟩)
    · exact fun r o => Eq.trans (by pointwise; blk_ext) (hX7 2 r ⟨512 + o.val, by omega⟩)
    · exact fun r o => Eq.trans (by pointwise; blk_ext) (hX7 3 r ⟨o.val, by omega⟩)
    · exact fun r o => Eq.trans (by pointwise; blk_ext) (hX7 3 r ⟨256 + o.val, by omega⟩)
    · exact fun r o => Eq.trans (by pointwise; blk_ext) (hX7 3 r ⟨512 + o.val, by omega⟩)
    · congr 1 <;> apply Fin.ext <;> (try dsimp only) <;> (try omega)
  case piece3 =>
    idx_vars x
    refine Eq.trans (Eq.trans (b := pairOps (k0_pay3 i) (k0_pay4 i)
      (View.ld (Val := Elt Ideal) (e' := .bf16) X0 r0_0) (View.ld (Val := Elt Ideal) (e' := .f32) X1 r0_0) (View.ld (Val := Elt Ideal) (e' := .f32) X2 r0_0) (View.ld (Val := Elt Ideal) (e' := .f32) X3 r0_0) (View.ld (Val := Elt Ideal) (e' := .f32) X4 r0_0) (View.ld (Val := Elt Ideal) (e' := .f32) X5 r0_0) (View.ld (Val := Elt Ideal) (e' := .f32) X6 r0_0)
      (View.ld (Val := Elt Ideal) (e' := .f32) X7 r0_1) (View.ld (Val := Elt Ideal) (e' := .f32) X7 r0_2) (View.ld (Val := Elt Ideal) (e' := .f32) X7 r0_3) (View.ld (Val := Elt Ideal) (e' := .f32) X7 r0_4) (View.ld (Val := Elt Ideal) (e' := .f32) X7 r0_5) (View.ld (Val := Elt Ideal) (e' := .f32) X7 r0_6) (ix3 0 x1 x2)) ?_
      (pair_val Q K V B b n 0 _ _ _ _ _ _ _ _ _ _ _ _ _ _ _ (pen0 i n hn) (pen1 i n hn)
        ?_ ?_ ?_ ?_ ?_ ?_ ?_ ?_ ?_ ?_ ?_ ?_ ?_ x1 x2)) ?_
    · obtain rfl : x0 = 0 := Subsingleton.elim _ _
      rfl
    · exact fun r l => Eq.trans (by pointwise; blk_ext) (hX0 r ⟨128 * 0 + l.val, by omega⟩)
    · exact fun r l => Eq.trans (by pointwise; blk_ext) (hX1 r ⟨128 * 0 + l.val, by omega⟩)
    · exact fun r l => Eq.trans (by pointwise; blk_ext) (hX2 r ⟨128 * 0 + l.val, by omega⟩)
    · exact fun r l => Eq.trans (by pointwise; blk_ext) (hX3 r ⟨128 * 0 + l.val, by omega⟩)
    · exact fun r l => Eq.trans (by pointwise; blk_ext) (hX4 r ⟨128 * 0 + l.val, by omega⟩)
    · exact fun r l => Eq.trans (by pointwise; blk_ext) (hX5 r ⟨128 * 0 + l.val, by omega⟩)
    · exact fun r l => Eq.trans (by pointwise; blk_ext) (hX6 r ⟨128 * 0 + l.val, by omega⟩)
    · exact fun r o => Eq.trans (by pointwise; blk_ext) (hX7 0 r ⟨o.val, by omega⟩)
    · exact fun r o => Eq.trans (by pointwise; blk_ext) (hX7 0 r ⟨256 + o.val, by omega⟩)
    · exact fun r o => Eq.trans (by pointwise; blk_ext) (hX7 0 r ⟨512 + o.val, by omega⟩)
    · exact fun r o => Eq.trans (by pointwise; blk_ext) (hX7 1 r ⟨o.val, by omega⟩)
    · exact fun r o => Eq.trans (by pointwise; blk_ext) (hX7 1 r ⟨256 + o.val, by omega⟩)
    · exact fun r o => Eq.trans (by pointwise; blk_ext) (hX7 1 r ⟨512 + o.val, by omega⟩)
    · congr 1 <;> apply Fin.ext <;> (try dsimp only) <;> (try omega)

set_option maxHeartbeats 1600000 in
/-- The kernel's result array is the attention over its arguments. -/
theorem final (c : Dev nD) : (dats m 0 c).arrAt 8 cfg0.N
    = attArr (m (c.tc.loc main_arg0)) (m (c.tc.loc main_arg1)) (m (c.tc.loc main_arg2)) (m (c.tc.loc main_arg3)) := by
  refine (dats m 0 c).arrAt_eq_of_covers 8 _ (by decide +kernel) fun t _ y => ?_
  blk_simp
  rw [after0_8]
  have ht := idx t
  have hc : (grid0.coords t 1).val = t.val % 32 := ht.2.2.2.2.2.2.2.2.2.2
  have hb : t.val / 32 < 4 := ht.2.2.2.2.2.2.2.2.2.1
  refine Eq.trans (out_val (m (c.tc.loc main_arg0)) (m (c.tc.loc main_arg1)) (m (c.tc.loc main_arg2)) (m (c.tc.loc main_arg3))
    (grid0.coords t) ⟨t.val / 32, hb⟩ ⟨t.val % 32, by omega⟩ hc _ _ _ _ _ _ _ _ ?_ ?_ ?_ ?_ ?_ ?_ ?_ ?_ y) ?_
  · intro o l; blk_ext [iblk, V, idx t]
  · intro o l; blk_ext [iblk, V, idx t]
  · intro o l; blk_ext [iblk, V, idx t]
  · intro o l; blk_ext [iblk, V, idx t]
  · intro o l; blk_ext [iblk, V, idx t]
  · intro o l; blk_ext [iblk, V, idx t]
  · intro o l; blk_ext [iblk, V, idx t]
  · intro h r w
    refine Eq.trans ?_ (table_apply m c h r w)
    blk_ext [iblk, idx t]
  · unfold attArr
    congr 1 <;> apply Fin.ext <;> blk_simp [idx t] <;> (try dsimp only) <;> (try omega)

end Cert.KernelIdeal.AttValue

end
-- ==== Proof.Ref.lean ====
module

public import proofs.«01_k».proof.Proof.Att
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference read at an index. -/

namespace Cert.ReferenceIdeal.AttRef

open Cert.ReferenceIdeal Cert.ReferenceIdeal.Gen Cert.ReferenceIdeal.Read Cert.Att Cert.Softmax Cert.Words
open Idealize.ShloMosaic Idealize.ShloMosaic.TcCoe Idealize.SL.Sem

/-- The padded keys: zero in the first eight chunks. -/
theorem pad_at (x1 : FVec Ideal S4x8192x512 .f32) (n : Fin 4) (p : Fin 136) (o : Fin 64) (h : Fin 8) (d : Fin 64) :
    @Eq EReal (val_main_v3 (F := Ideal) x1 (ix5 n p o h d))
      (if hp : 8 ≤ p.val then x1 (ix3 n ⟨(p.val - 8) * 64 + o.val, by omega⟩ ⟨h.val * 64 + d.val, by omega⟩) else 0) := by
  unfold val_main_v3
  pointwise [val_main_v2]
  by_cases h8 : 8 ≤ p.val
  · rw [dif_pos ⟨h8, by omega⟩, dif_pos h8]
  · rw [dif_neg (fun hh => h8 hh.1), dif_neg h8]
    show (((0#32 : BitVec 32).toInt : ℝ) : EReal) = 0
    simp

/-- The chunk bands of the keys. -/
theorem band_at (x1 : FVec Ideal S4x8192x512 .f32) (n : Fin 4) (c : Fin 128) (j : Fin 576) (h : Fin 8) (d : Fin 64) :
    val_main_v15 (F := Ideal) x1 (ix5 n c j h d) = val_main_v3 (F := Ideal) x1 (ix5 n ⟨c.val + j.val / 64, by omega⟩ ⟨j.val % 64, by omega⟩ h d) := by
  unfold val_main_v15
  pointwise [val_main_v6, val_main_v7, val_main_v8, val_main_v9, val_main_v10, val_main_v11, val_main_v12, val_main_v13, val_main_v14]
  blk_point []

/-- The padded keys and the padded values are the same function. -/
theorem band_values (x : FVec Ideal S4x8192x512 .f32) : val_main_v25 (F := Ideal) x = val_main_v15 (F := Ideal) x := rfl

/-- A chunk's band of keys (or values) at a place: the array's row, or zero before the start of the sequence. -/
theorem key_at (x1 : FVec Ideal S4x8192x512 .f32) (n : Fin 4) (c : Fin 128) (j : Fin 576) (h : Fin 8) (d : Fin 64) :
    @Eq EReal (val_main_v15 (F := Ideal) x1 (ix5 n c j h d))
      (if hp : 512 ≤ c.val * 64 + j.val then x1 (ix3 n ⟨c.val * 64 + j.val - 512, by omega⟩ ⟨h.val * 64 + d.val, by omega⟩) else 0) := by
  refine (band_at x1 n c j h d).trans ((pad_at x1 n _ _ h d).trans ?_)
  by_cases hp : 512 ≤ c.val * 64 + j.val
  · rw [dif_pos hp, dif_pos (show 8 ≤ (⟨c.val + j.val / 64, by omega⟩ : Fin 136).val by dsimp only; omega)]
    blk_ext
  · rw [dif_neg hp, dif_neg (show ¬ 8 ≤ (⟨c.val + j.val / 64, by omega⟩ : Fin 136).val by dsimp only; omega)]

theorem mask_bits : ∀ (c : Fin 128) (a : Fin 9),
    IntOp.andi
      (IntOp.andi (IntOp.cmpi .sge (IntOp.addi (IntOp.subi (BitVec.ofNat 32 c.val) 8#32) (BitVec.ofNat 32 a.val)) 0#32)
        (IntOp.cmpi .sle (IntOp.addi (IntOp.subi (BitVec.ofNat 32 c.val) 8#32) (BitVec.ofNat 32 a.val)) (BitVec.ofNat 32 c.val)))
      (IntOp.cmpi .sge (IntOp.addi (IntOp.subi (BitVec.ofNat 32 c.val) 8#32) (BitVec.ofNat 32 a.val)) (IntOp.subi (BitVec.ofNat 32 c.val) 8#32))
      = if 8 ≤ c.val + a.val then 1#1 else 0#1 := by decide +kernel

/-- The mask: a key counts from the start of the sequence on. -/
theorem mask_at (c : Fin 128) (j : Fin 576) :
    val_main_v67 (F := Ideal) (ix2 c j) = if 512 ≤ c.val * 64 + j.val then 1#1 else 0#1 := by
  have h := mask_bits c ⟨j.val / 64, by omega⟩
  refine Eq.trans ?_ (h.trans (if_congr (show (8 ≤ c.val + (⟨j.val / 64, by omega⟩ : Fin 9).val) ↔ (512 ≤ c.val * 64 + j.val) by dsimp only; omega) rfl rfl))
  pointwise [val_main_v67, val_main_v62, val_main_v59, val_main_v61, val_main_v66, val_main_v57, val_main_v55, val_main_v56, val_main_v50,
    val_main_v48, val_main_v47, val_main_v49, val_main_c_7, val_main_v54, val_main_v53, val_main_v52, val_main_v51, val_main_v58, val_main_c_8,
    val_main_v60, val_main_v65, val_main_v64, val_main_v63, val_main_c_9]

/-- The column numbers of the reference's biases. -/
theorem col_at (r : Fin 64) (w : Fin 576) : val_main_v39 (F := Ideal) (ix2 r w) = BitVec.ofNat 32 (col r.val w.val).val := by
  rw [← clip_word r.val w.val (by omega) (by omega)]
  pointwise [val_main_v39, val_main_v37, val_main_call2_v4, val_main_call2_v3, val_main_c_3, val_main_call2_v2, val_main_call2_v1, val_main_call2_v0,
    val_main_c_2, val_main_v35, val_main_v33, val_main_v34, val_main_v30, val_main_v28, val_main_v27, val_main_v29, val_main_c_1, val_main_v32,
    val_main_v31, val_main_v38, val_main_c_4]
  rfl

theorem idx_at (r : Fin 64) (w : Fin 576) : val_main_v45 (F := Ideal) (ix3 r w 0) = BitVec.ofNat 32 (col r.val w.val).val := by
  refine Eq.trans ?_ (wrap_small (col r.val w.val))
  rw [← col_at r w]
  pointwise [val_main_v45, val_main_v44, val_main_v41, val_main_v43, val_main_v42, val_main_v40, val_main_c_5, val_main_c_6]

/-- The reference's biases at an index. -/
theorem bias_at (x3 : FVec Ideal S1x8x257 .f32) (h : Fin 8) (r : Fin 64) (w : Fin 576) :
    val_main_v46 (F := Ideal) x3 (ix3 h r w) = x3 (ix3 0 h (col r.val w.val)) := by
  unfold val_main_v46
  refine (gather_cols _ gather_S8x257_S64x576x1_S8x64x576_0_1_n_n_1_2_81_wf rfl _ (val_main_v45 (F := Ideal)) h r w (col r.val w.val) (idx_at r w) (by norm_num)).trans ?_
  pointwise [val_main_v36]

/-- The masked logits. -/
theorem logit_at (x0 : FVec Ideal S4x8192x512 .bf16) (x1 : FVec Ideal S4x8192x512 .f32) (x3 : FVec Ideal S1x8x257 .f32)
    (n : Fin 4) (s : Fin 8192) (g : Fin 512) (c : Fin 128) (h : Fin 8) (q : Fin 64) (j : Fin 576)
    (hc : c.val = s.val / 64) (hq : q.val = s.val % 64) (hh : h.val = g.val / 64) :
    @Eq EReal (val_main_v72 (F := Ideal) x0 x1 x3 (ix5 n c h q j)) (lg x0 x1 x3 n s g j) := by
  unfold lg
  pointwise [val_main_v72, val_main_call3_v1, val_main_v68, mask_at, val_main_call3_v2, val_main_call3_v0, val_main_cst, val_main_v71,
    val_main_v70, val_main_v69, bias_at, val_main_v26, val_main_v1, val_main_v0]
  have hs : c.val * 64 + q.val = s.val := by omega
  by_cases hm : 512 ≤ s.val / 64 * 64 + j.val
  · rw [if_pos (show 512 ≤ c.val * 64 + j.val by omega), dif_pos hm]
    show (_ : EReal) + _ = _ + _
    refine congrArg₂ (· + ·) (Finset.sum_congr rfl fun x _ => congrArg₂ (· * ·) ?_ ?_) ?_
    · blk_ext
    · refine (key_at x1 n c j h x).trans ?_
      rw [dif_pos (show 512 ≤ c.val * 64 + j.val by omega)]
      blk_ext
    · have e3 : h = (⟨g.val / 64, by omega⟩ : Fin 8) := Fin.ext hh
      rw [hq, e3]
  · rw [if_neg (show ¬ 512 ≤ c.val * 64 + j.val by omega), dif_neg hm]
    exact ofBits_ninf

end Cert.ReferenceIdeal.AttRef

end
-- ==== Proof.RefOut.lean ====
module

public import proofs.«01_k».proof.Proof.Ref
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference's result at an index. -/

namespace Cert.ReferenceIdeal.AttRef

open Cert.ReferenceIdeal Cert.ReferenceIdeal.Gen Cert.ReferenceIdeal.Read Cert.Att Cert.Softmax Cert.Words
open Idealize.ShloMosaic Idealize.ShloMosaic.TcCoe Idealize.SL.Sem

/-- A host maximum along the last axis of five, at an index: the greatest entry of that row. -/
theorem max_last {n0 n1 n2 n3 n4 : ℕ} (y : FVec Ideal ⟨5, ![n0, n1, n2, n3, n4]⟩ .f32)
    (ht : (⟨5, ![n0, n1, n2, n3, n4]⟩ : Shape).ReducesTo [4] ⟨4, ![n0, n1, n2, n3]⟩)
    (hr : (⟨5, ![n0, n1, n2, n3, n4]⟩ : Shape).Reduces [4] ⟨4, ![n0, n1, n2, n3]⟩) (h0 : 0 < (⟨0, ![]⟩ : Shape).numel)
    (a : Fin n0) (b : Fin n1) (c : Fin n2) (d : Fin n3) :
    @Eq EReal (Host.reduce (FloatOps.maximumf (F := Ideal) (φ := .f32)) y (constant (F := Ideal) ⟨0, ![]⟩ .f32 0xFF800000#32) ht h0 (ix4 a b c d))
      (mx fun j => y (ix5 a b c d j)) := by
  rw [Host.reduce_eq_fold_single FloatOps.maximumf y _ ht hr h0]
  have hb : (constant (F := Ideal) (⟨0, ![]⟩ : Shape) .f32 0xFF800000#32) (Shape.Idx.first h0) = (⊥ : EReal) := ofBits_ninf
  have hf : (y ∘ hr.lift (ix4 a b c d)) = fun k : Fin n4 => y (ix5 a b c d k) := funext fun k =>
    congrArg y (funext fun i => Fin.ext (by match i with | ⟨0, _⟩ => rfl | ⟨1, _⟩ => rfl | ⟨2, _⟩ => rfl | ⟨3, _⟩ => rfl | ⟨4, _⟩ => rfl))
  exact congrArg₂ (fun (b : EReal) (f : Fin n4 → EReal) => Finset.fold max b f (Finset.univ : Finset (Fin n4))) hb hf

/-- A host maximum along the last axis, at an index: the greatest entry of that row. -/
theorem max_at (y : FVec Ideal S4x128x8x64x576 .f32) (n : Fin 4) (c : Fin 128) (h : Fin 8) (q : Fin 64) :
    @Eq EReal (Host.reduce (FloatOps.maximumf (F := Ideal) (φ := .f32)) y (constant (F := Ideal) S_ .f32 0xFF800000#32) reducesTo_S4x128x8x64x576_S4x128x8x64_d4 h_S_ (ix4 n c h q))
      (mx fun j => y (ix5 n c h q j)) :=
  max_last y _ (by decide) _ n c h q

/-- A maximum against −∞ changes nothing; the result is spread along the row. -/
theorem top_spread (x0 : FVec Ideal S4x8192x512 .bf16) (x1 : FVec Ideal S4x8192x512 .f32) (x3 : FVec Ideal S1x8x257 .f32)
    (n : Fin 4) (c : Fin 128) (h : Fin 8) (q : Fin 64) (j : Fin 576) (M : EReal)
    (h1 : @Eq EReal (val_main_v73 (F := Ideal) x0 x1 x3 (ix4 n c h q)) M) :
    @Eq EReal (val_main_v77 (F := Ideal) x0 x1 x3 (ix5 n c h q j)) M := by
  have h74 : @Eq EReal (val_main_v74 (F := Ideal) (ix4 n c h q)) ⊥ := (val_main_v74_apply _).trans ofBits_ninf
  have h2 : @Eq EReal (val_main_v75 (F := Ideal) x0 x1 x3 (ix4 n c h q)) M := by
    unfold val_main_v75
    generalize val_main_v73 (F := Ideal) x0 x1 x3 = y at h1 ⊢
    generalize val_main_v74 (F := Ideal) = z at h74 ⊢
    rw [maximumf_apply, h74, h1, Ideal.maximumf_def]
    exact max_eq_right bot_le
  unfold val_main_v77 val_main_v76
  generalize val_main_v75 (F := Ideal) x0 x1 x3 = y at h2 ⊢
  refine Eq.trans ?_ h2
  pointwise

/-- The row maxima of the logits, spread along the row. -/
theorem top_at (x0 : FVec Ideal S4x8192x512 .bf16) (x1 : FVec Ideal S4x8192x512 .f32) (x3 : FVec Ideal S1x8x257 .f32)
    (n : Fin 4) (c : Fin 128) (h : Fin 8) (q : Fin 64) (j : Fin 576) (lgs : Fin 576 → EReal)
    (hl : ∀ j, @Eq EReal (val_main_v72 (F := Ideal) x0 x1 x3 (ix5 n c h q j)) (lgs j)) :
    @Eq EReal (val_main_v77 (F := Ideal) x0 x1 x3 (ix5 n c h q j)) (mx lgs) := by
  have h1 : @Eq EReal (val_main_v73 (F := Ideal) x0 x1 x3 (ix4 n c h q)) (mx lgs) := by
    unfold val_main_v73 val_main_cst_10
    generalize val_main_v72 (F := Ideal) x0 x1 x3 = y at hl ⊢
    exact (max_at y n c h q).trans (congrArg mx (funext hl))
  exact top_spread x0 x1 x3 n c h q j (mx lgs) h1

/-- The exponentials of the logits less their maximum. -/
theorem exp_at (x0 : FVec Ideal S4x8192x512 .bf16) (x1 : FVec Ideal S4x8192x512 .f32) (x3 : FVec Ideal S1x8x257 .f32)
    (n : Fin 4) (c : Fin 128) (h : Fin 8) (q : Fin 64) (j : Fin 576) (lgs : Fin 576 → EReal)
    (hl : ∀ j, @Eq EReal (val_main_v72 (F := Ideal) x0 x1 x3 (ix5 n c h q j)) (lgs j)) :
    @Eq EReal (val_main_v79 (F := Ideal) x0 x1 x3 (ix5 n c h q j)) (Ideal.exp (lgs j - mx lgs)) := by
  have ht := top_at x0 x1 x3 n c h q j lgs hl
  have hj := hl j
  unfold val_main_v79 val_main_v78
  generalize val_main_v72 (F := Ideal) x0 x1 x3 = y at hj ⊢
  generalize val_main_v77 (F := Ideal) x0 x1 x3 = z at ht ⊢
  pointwise
  rw [hj, ht]

/-- The sums of the exponentials, spread along the row. -/
theorem tot_at (x0 : FVec Ideal S4x8192x512 .bf16) (x1 : FVec Ideal S4x8192x512 .f32) (x3 : FVec Ideal S1x8x257 .f32)
    (n : Fin 4) (c : Fin 128) (h : Fin 8) (q : Fin 64) (j : Fin 576) (lgs : Fin 576 → EReal)
    (hl : ∀ j, @Eq EReal (val_main_v72 (F := Ideal) x0 x1 x3 (ix5 n c h q j)) (lgs j)) :
    @Eq EReal (val_main_v82 (F := Ideal) x0 x1 x3 (ix5 n c h q j)) (∑ l, Ideal.exp (lgs l - mx lgs)) := by
  have h1 : @Eq EReal (val_main_v80 (F := Ideal) x0 x1 x3 (ix4 n c h q)) (∑ l, Ideal.exp (lgs l - mx lgs)) := by
    refine (val_main_v80_apply x0 x1 x3 (ix4 n c h q)).trans ?_
    have h0 : (val_main_cst_12 (F := Ideal)) (Shape.Idx.first h_S_) = (0 : EReal) := Ideal.ofBits_zero .f32
    rw [h0, zero_add]
    refine Finset.sum_congr rfl fun l _ => Eq.trans (congrArg _ ?_) (exp_at x0 x1 x3 n c h q l lgs hl)
    exact funext fun a => Fin.ext (by match a with | ⟨0, _⟩ => rfl | ⟨1, _⟩ => rfl | ⟨2, _⟩ => rfl | ⟨3, _⟩ => rfl | ⟨4, _⟩ => rfl)
  unfold val_main_v82 val_main_v81
  generalize val_main_v80 (F := Ideal) x0 x1 x3 = y at h1 ⊢
  refine Eq.trans ?_ h1
  pointwise

/-- The softmax weights from the masked logits. -/
theorem weights_at (x0 : FVec Ideal S4x8192x512 .bf16) (x1 : FVec Ideal S4x8192x512 .f32) (x3 : FVec Ideal S1x8x257 .f32)
    (n : Fin 4) (c : Fin 128) (h : Fin 8) (q : Fin 64) (j : Fin 576) (lgs : Fin 576 → EReal)
    (hl : ∀ j, @Eq EReal (val_main_v72 (F := Ideal) x0 x1 x3 (ix5 n c h q j)) (lgs j)) :
    @Eq EReal (val_main_v83 (F := Ideal) x0 x1 x3 (ix5 n c h q j))
      (Ideal.div (Ideal.exp (lgs j - mx lgs)) (∑ l, Ideal.exp (lgs l - mx lgs))) := by
  have ha := exp_at x0 x1 x3 n c h q j lgs hl
  have hb := tot_at x0 x1 x3 n c h q j lgs hl
  unfold val_main_v83
  generalize val_main_v79 (F := Ideal) x0 x1 x3 = y at ha ⊢
  generalize val_main_v82 (F := Ideal) x0 x1 x3 = z at hb ⊢
  pointwise
  rw [ha, hb]

/-- The result from the weights. -/
theorem out_at (x0 : FVec Ideal S4x8192x512 .bf16) (x1 x2 : FVec Ideal S4x8192x512 .f32) (x3 : FVec Ideal S1x8x257 .f32)
    (n : Fin 4) (s : Fin 8192) (g : Fin 512) :
    @Eq EReal (val_main_v87 (F := Ideal) x0 x1 x2 x3 (ix3 n s g))
      (∑ j : Fin 576, @HMul.hMul EReal EReal EReal _ (val_main_v25 (F := Ideal) x2 (ix5 n ⟨s.val / 64, by omega⟩ j ⟨g.val / 64, by omega⟩ ⟨g.val % 64, by omega⟩))
        (val_main_v83 (F := Ideal) x0 x1 x3 (ix5 n ⟨s.val / 64, by omega⟩ ⟨g.val / 64, by omega⟩ ⟨s.val % 64, by omega⟩ j))) := by
  unfold val_main_v87 val_main_v86 val_main_v85 val_main_v84
  generalize val_main_v25 (F := Ideal) x2 = a
  generalize val_main_v83 (F := Ideal) x0 x1 x3 = b
  pointwise

/-- The reference's result before its weights are rewritten. -/
theorem res_at (x0 : FVec Ideal S4x8192x512 .bf16) (x1 x2 : FVec Ideal S4x8192x512 .f32) (x3 : FVec Ideal S1x8x257 .f32)
    (n : Fin 4) (s : Fin 8192) (g : Fin 512) :
    @Eq EReal (val_main_v87 (F := Ideal) x0 x1 x2 x3 (ix3 n s g))
      (∑ j, vv x2 n s g j * Ideal.div (Ideal.exp (lg x0 x1 x3 n s g j - mx (lg x0 x1 x3 n s g)))
          (∑ l, Ideal.exp (lg x0 x1 x3 n s g l - mx (lg x0 x1 x3 n s g)))) := by
  refine (out_at x0 x1 x2 x3 n s g).trans (Finset.sum_congr rfl fun j _ => ?_)
  refine congrArg₂ (· * ·) ?_ (weights_at x0 x1 x3 n _ _ _ j _ fun l => logit_at x0 x1 x3 n s g _ _ _ l rfl rfl rfl)
  rw [band_values]
  refine (key_at x2 n _ j _ _).trans ?_
  unfold vv
  by_cases hm : 512 ≤ s.val / 64 * 64 + j.val
  · rw [dif_pos hm, dif_pos hm]
    blk_ext
  · rw [dif_neg hm, dif_neg hm]

/-- A sum of products of reals is real. -/
theorem real_dot {k : ℕ} (f g : Fin k → EReal) (hf : ∀ d, f d ≠ ⊤ ∧ f d ≠ ⊥) (hg : ∀ d, g d ≠ ⊤ ∧ g d ≠ ⊥) :
    ∃ r : ℝ, (∑ d, f d * g d) = (r : EReal) := by
  refine ⟨∑ d, (f d).toReal * (g d).toReal, ?_⟩
  rw [← sum_coe]
  refine Finset.sum_congr rfl fun d _ => ?_
  rw [EReal.coe_mul, EReal.coe_toReal (hf d).1 (hf d).2, EReal.coe_toReal (hg d).1 (hg d).2]

/-- Where queries, keys and biases are real, the reference's result is the local attention. -/
theorem res_eq (x0 : FVec Ideal S4x8192x512 .bf16) (x1 x2 : FVec Ideal S4x8192x512 .f32) (x3 : FVec Ideal S1x8x257 .f32)
    (h0 : ∀ i, @Ne EReal (x0 i) ⊤ ∧ @Ne EReal (x0 i) ⊥) (h1 : ∀ i, @Ne EReal (x1 i) ⊤ ∧ @Ne EReal (x1 i) ⊥)
    (h3 : ∀ i, @Ne EReal (x3 i) ⊤ ∧ @Ne EReal (x3 i) ⊥) :
    val_main_v87 (F := Ideal) x0 x1 x2 x3 = attArr x0 x1 x2 x3 := by
  refine funext fun i => ?_
  obtain ⟨n, s, g, rfl⟩ := (⟨i 0, i 1, i 2, eq_ix3 i⟩ : ∃ a b c, i = ix3 a b c)
  refine (res_at x0 x1 x2 x3 n s g).trans (softRef_eq _ _ ?_ ?_)
  · intro j
    unfold lg
    by_cases hm : 512 ≤ s.val / 64 * 64 + j.val
    · rw [dif_pos hm]
      obtain ⟨r, hr⟩ := real_dot (fun d : Fin 64 => x0 (ix3 n s ⟨g.val / 64 * 64 + d.val, by omega⟩))
        (fun d : Fin 64 => x1 (ix3 n ⟨s.val / 64 * 64 + j.val - 512, by omega⟩ ⟨g.val / 64 * 64 + d.val, by omega⟩)) (fun d => h0 _) (fun d => h1 _)
      rw [hr]
      exact (EReal.add_lt_top (EReal.coe_ne_top r) (h3 _).1).ne
    · rw [dif_neg hm]
      exact bot_ne_top
  · refine ⟨⟨512, by norm_num⟩, ?_⟩
    unfold lg
    have hm : 512 ≤ s.val / 64 * 64 + (⟨512, by norm_num⟩ : Fin 576).val := by dsimp only; omega
    rw [dif_pos hm]
    obtain ⟨r, hr⟩ := real_dot (fun d : Fin 64 => x0 (ix3 n s ⟨g.val / 64 * 64 + d.val, by omega⟩))
      (fun d : Fin 64 => x1 (ix3 n ⟨s.val / 64 * 64 + (⟨512, by norm_num⟩ : Fin 576).val - 512, by dsimp only; omega⟩ ⟨g.val / 64 * 64 + d.val, by omega⟩)) (fun d => h0 _) (fun d => h1 _)
    rw [hr]
    intro e
    rcases EReal.add_eq_bot_iff.mp e with e | e
    · exact EReal.coe_ne_bot r e
    · exact (h3 _).2 e

end Cert.ReferenceIdeal.AttRef

end
-- ==== Proof.Pre.lean ====
module

public import proofs.«01_k».proof.Proof.Words
public import proofs.«01_k».proof.Proof.Gen.Pre_finite
public import Idealize.ShloMosaic.Lib.ReduceAll
public import Idealize.ShloMosaic.Lib.Pointwise

@[expose] public section

set_option maxRecDepth 16384

noncomputable section

/-! The precondition read back: queries, keys and biases are real numbers. -/

namespace Cert.Pre_finite.Finite

open Cert.Pre_finite Cert.Pre_finite.Gen Cert.Words
open Idealize.ShloMosaic Idealize.ShloMosaic.TcCoe Idealize.SL.Sem

/-- An extended real whose absolute value is below +∞ is a real number. -/
theorem real_of_abs (x : EReal) (h : max x (-x) < ⊤) : x ≠ ⊤ ∧ x ≠ ⊥ := by
  constructor
  · rintro rfl; simp at h
  · rintro rfl; simp at h

/-- One comparison of the precondition. -/
theorem real_of_bit (x : Ideal .f32) (h : FloatOps.cmpf .olt (FloatOps.hostAbsf x) (FloatOps.ofBits (F := Ideal) .f32 0x7F800000#32) = 1#1) :
    @Ne EReal x ⊤ ∧ @Ne EReal x ⊥ := by
  have e : (FloatOps.ofBits (F := Ideal) .f32 0x7F800000#32 : EReal) = ⊤ := ofBits_pinf
  have h' : BitVec.ofBool (decide (max (x : EReal) (-x) < (FloatOps.ofBits (F := Ideal) .f32 0x7F800000#32 : EReal))) = 1#1 := h
  rw [e] at h'
  refine real_of_abs x ?_
  by_contra hn
  rw [decide_eq_false hn] at h'
  exact absurd h' (by decide)

instance : Subsingleton S_.Idx := ⟨fun a b => funext fun k => k.elim0⟩

/-- The precondition makes every query, key and bias a real number. -/
theorem finite_of (x0 : FVec Ideal S4x8192x512 .bf16) (x1 x2 : FVec Ideal S4x8192x512 .f32) (x3 : FVec Ideal S1x8x257 .f32)
    (h : fn (F := Ideal) x0 x1 x2 x3 = fun _ => 1#1) :
    (∀ i, @Ne EReal (x0 i) ⊤ ∧ @Ne EReal (x0 i) ⊥) ∧ (∀ i, @Ne EReal (x1 i) ⊤ ∧ @Ne EReal (x1 i) ⊥)
      ∧ (∀ i, @Ne EReal (x3 i) ⊤ ∧ @Ne EReal (x3 i) ⊥) := by
  have h := congrFun h ix0
  unfold fn at h
  obtain ⟨h01, h3⟩ := IntOp.andi_eq_one.1 h
  obtain ⟨h0, h1⟩ := IntOp.andi_eq_one.1 h01
  refine ⟨fun i => ?_, fun i => ?_, fun i => ?_⟩
  · exact real_of_bit _ (Host.reduce_andi_all _ _ _ _ _ h0 i)
  · exact real_of_bit _ (Host.reduce_andi_all _ _ _ _ _ h1 i)
  · exact real_of_bit _ (Host.reduce_andi_all _ _ _ _ _ h3 i)

end Cert.Pre_finite.Finite

end
-- ==== Proof.Claims.lean ====
module

public import proofs.«01_k».proof.Defs
public import proofs.«01_k».proof.Proof.Value
public import proofs.«01_k».proof.Proof.RefOut
public import proofs.«01_k».proof.Proof.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

/-! The claims about the prompt's local attention. -/

namespace Cert.AttClaims

open Idealize.ShloMosaic Idealize.SL.Sem

/-- The kernel runs and leaves its arguments. -/
theorem frame_p : Cert.quiescent_Kernel := fun m ρ _ => Cert.Kernel.Gen.frame m ρ

/-- The idealized kernel runs and leaves its arguments. -/
theorem frame_pi : Cert.quiescent_KernelIdeal := fun m ρ _ => Cert.KernelIdeal.Gen.frame m ρ

/-- So it does from the arguments of the precondition. -/
theorem frame_pi_pre : Cert.quiescent_KernelIdeal_pre_finite := fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does from the arguments of the precondition. -/
theorem frame_ri_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant of the kernel stands for −∞. -/
theorem preserves : Cert.preserves_Kernel_KernelIdeal :=
  IdealRules.named_const.statement Cert.KernelIdeal.κ "mask" .f32 0xF149F2CA#32 ⊥ rfl

/-- From queries, keys and biases that are real numbers, kernel and reference compute the same attention. -/
theorem algebraic : Cert.algebraic_KernelIdeal_ReferenceIdeal_pre_finite := by
  intro m g m' g' hpre hagree
  refine ⟨fun c => Cert.Att.attArr (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · refine (θ_run _ _ _).mono (fun r h c => ?_) (Cert.KernelIdeal.Value.run_blocks m g)
    exact ⟨(h c).1.trans (Cert.KernelIdeal.AttValue.final m c), (h c).2⟩
  · refine (θ_run _ _ _).mono (fun r h c => ?_) (Cert.ReferenceIdeal.Value.run m' g')
    obtain ⟨a0, a1, a2, a3⟩ := hagree c
    refine ⟨(h c).1.trans ((Cert.ReferenceIdeal.Read.val_main_v87_eq m' c).trans ?_), (h c).2⟩
    obtain ⟨h0, h1, h3⟩ := Cert.Pre_finite.Finite.finite_of _ _ _ _ (hpre c)
    rw [a0, a1, a2, a3]
    exact Cert.ReferenceIdeal.AttRef.res_eq _ _ _ _ h0 h1 h3

end Cert.AttClaims

end
-- ==== Proof.Tail.lean ====
module

public import Idealize.ShloMosaic.Lib.Pointwise
public import Idealize.ShloMosaic.PureOps.Ideal.Laws

@[expose] public section

noncomputable section

/-! The layer's second half, row by row: the convolution over the gated values, its layer norm and gate, the output
    projection onto the residual, the feed-forward block and the gated per-token embedding. -/

namespace Cert.Tail

open Idealize.ShloMosaic

/-- The constant under the roots. -/
def eps : EReal := Ideal.ofBits .f32 0x358637BD#32

/-- `x` times the logistic function of `x`. -/
def silu (x : EReal) : EReal := x * Ideal.logistic x

/-- A row of 512 less its mean. -/
def centred (y : Fin 512 → EReal) (c : Fin 512) : EReal := y c - Ideal.div (∑ k, y k) (Ideal.ofBits .f32 0x44000000#32)

/-- The layer norm of a row of 512. -/
def normed (y g b : Fin 512 → EReal) (c : Fin 512) : EReal :=
  centred y c * Ideal.rsqrt (Ideal.div (∑ k, centred y k * centred y k) (Ideal.ofBits .f32 0x44000000#32) + eps) * g c + b c

/-- The root-mean-square norm of a row of 1024. -/
def rms (h g : Fin 1024 → EReal) (c : Fin 1024) : EReal :=
  h c * Ideal.rsqrt (Ideal.div (∑ k, h k * h k) (Ideal.ofBits .f32 0x44800000#32) + eps) * g c

/-- Two rows of 512 side by side. -/
def cat (a v : Fin 512 → EReal) (k : Fin 1024) : EReal := if h : k.val < 512 then a ⟨k.val, h⟩ else v ⟨k.val - 512, by omega⟩

/-- The residual plus the output projection. -/
def hid (x v : Fin 1024 → EReal) (W : Fin 1024 → Fin 1024 → EReal) (d : Fin 1024) : EReal := x d + ∑ k, v k * W k d

/-- One gated unit of the feed-forward block. -/
def act (n : Fin 1024 → EReal) (U : Fin 1024 → Fin 5632 → EReal) (j : Fin 2816) : EReal :=
  silu (∑ k, n k * U k ⟨j.val, by omega⟩) * ∑ k, n k * U k ⟨2816 + j.val, by omega⟩

/-- The residual plus the feed-forward block. -/
def ffn (h g : Fin 1024 → EReal) (U : Fin 1024 → Fin 5632 → EReal) (D : Fin 2816 → Fin 1024 → EReal) (d : Fin 1024) : EReal :=
  h d + ∑ j, act (rms h g) U j * D j d

/-- The residual plus the gated embedding. -/
def emb (h g : Fin 1024 → EReal) (G : Fin 1024 → Fin 1024 → EReal) (p : Fin 256 → EReal) (E : Fin 256 → Fin 1024 → EReal) (d : Fin 1024) : EReal :=
  h d + Ideal.logistic (∑ k, rms h g k * G k d) * ∑ k, p k * E k d

/-- The 31 taps, added from the first on. -/
def conv (t : Fin 31 → EReal) : EReal :=
  t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30

/-- A row of the whole second half: from the row of the residual stream, of the attention, the convolved row before its
    norm, and the row of the embeddings. -/
def rowOut (x : Fin 1024 → EReal) (a y : Fin 512 → EReal) (p : Fin 256 → EReal) (lg lb : Fin 512 → EReal) (W : Fin 1024 → Fin 1024 → EReal)
    (gf : Fin 1024 → EReal) (U : Fin 1024 → Fin 5632 → EReal) (D : Fin 2816 → Fin 1024 → EReal) (gp : Fin 1024 → EReal)
    (G : Fin 1024 → Fin 1024 → EReal) (E : Fin 256 → Fin 1024 → EReal) : Fin 1024 → EReal :=
  emb (ffn (hid x (cat a fun c => silu (normed y lg lb c)) W) gf U D) gp G p E

/-- The shapes of the arrays. -/
abbrev SX : Shape := ⟨3, ![4, 8192, 1024]⟩
abbrev SA : Shape := ⟨3, ![4, 8192, 512]⟩
abbrev SG : Shape := ⟨2, ![32768, 512]⟩
abbrev SP : Shape := ⟨4, ![1, 4, 8192, 256]⟩
abbrev SCW : Shape := ⟨3, ![1, 31, 512]⟩
abbrev SC : Shape := ⟨2, ![1, 512]⟩
abbrev SD : Shape := ⟨2, ![1, 1024]⟩
abbrev SW : Shape := ⟨3, ![1, 1024, 1024]⟩
abbrev SU : Shape := ⟨3, ![1, 1024, 5632]⟩
abbrev SDn : Shape := ⟨3, ![1, 2816, 1024]⟩
abbrev SE : Shape := ⟨3, ![1, 256, 1024]⟩

/-- The gated value that tap `w` of position `s` of sequence `b` reads: the one `30 - w` positions before, zero before the
    sequence's start. -/
def tap (Gl : SG.Idx → EReal) (b : Fin 4) (s : Fin 8192) (w : Fin 31) (c : Fin 512) : EReal :=
  if h : 30 ≤ s.val + w.val then Gl (ix2 ⟨8192 * b.val + (s.val + w.val - 30), by omega⟩ c) else 0

/-- The convolved row before its norm. -/
def convRow (Gl : SG.Idx → EReal) (CW : SCW.Idx → EReal) (CB : SC.Idx → EReal) (b : Fin 4) (s : Fin 8192) (c : Fin 512) : EReal :=
  conv (fun w => tap Gl b s w c * CW (ix3 0 w c)) + CB (ix2 0 c)

/-- The result at position `s` of sequence `b`. -/
def tail (X : SX.Idx → EReal) (A : SA.Idx → EReal) (Gl : SG.Idx → EReal) (P : SP.Idx → EReal) (CW : SCW.Idx → EReal) (CB LG LB : SC.Idx → EReal)
    (W : SW.Idx → EReal) (GF : SD.Idx → EReal) (U : SU.Idx → EReal) (D : SDn.Idx → EReal) (GP : SD.Idx → EReal) (G : SW.Idx → EReal) (E : SE.Idx → EReal)
    (b : Fin 4) (s : Fin 8192) : Fin 1024 → EReal :=
  rowOut (fun d => X (ix3 b s d)) (fun c => A (ix3 b s c)) (convRow Gl CW CB b s) (fun k => P (ix4 0 b s k)) (fun c => LG (ix2 0 c)) (fun c => LB (ix2 0 c))
    (fun k d => W (ix3 0 k d)) (fun d => GF (ix2 0 d)) (fun k j => U (ix3 0 k j)) (fun j d => D (ix3 0 j d)) (fun d => GP (ix2 0 d))
    (fun k d => G (ix3 0 k d)) (fun k d => E (ix3 0 k d))

end Cert.Tail
-- ==== Proof.Proj.lean ====
module

public import proofs.«01_k».proof.Proof.Tail

@[expose] public section

noncomputable section

/-! The layer's projections, row by row: the normed row against the input weights, and the normalisation per head. -/

namespace Cert.Proj

open Idealize.ShloMosaic Cert.Tail

/-- An extended real that is a real number. -/
def Re (x : EReal) : Prop := ∃ r : ℝ, x = (r : EReal)

/-- What is neither infinity is a real number. -/
theorem Re.of_ne {x : EReal} (h : x ≠ ⊤ ∧ x ≠ ⊥) : Re x := ⟨x.toReal, (EReal.coe_toReal h.1 h.2).symm⟩

/-- Products of real numbers are real. -/
theorem Re.mul {x y : EReal} : Re x → Re y → Re (x * y) := by
  rintro ⟨a, rfl⟩ ⟨b, rfl⟩
  exact ⟨a * b, (EReal.coe_mul a b).symm⟩

/-- A sum of real numbers among the extended reals is their real sum. -/
theorem coe_sum {ι : Type} (s : Finset ι) (r : ι → ℝ) : (∑ k ∈ s, (r k : EReal)) = ((∑ k ∈ s, r k : ℝ) : EReal) := by
  classical
  induction s using Finset.induction with
  | empty => simp
  | insert a s ha ih => rw [Finset.sum_insert ha, Finset.sum_insert ha, ih, EReal.coe_add]

/-- Sums of real numbers are real. -/
theorem Re.sum {n : ℕ} {f : Fin n → EReal} (h : ∀ k, Re (f k)) : Re (∑ k, f k) := by
  choose r hr using h
  exact ⟨∑ k, r k, by rw [← coe_sum]; exact Finset.sum_congr rfl fun k _ => hr k⟩

/-- The row length's pattern is 1024. -/
theorem n1024 : Ideal.ofBits .f32 0x44800000#32 = ((1024 : ℝ) : EReal) := by
  simp [Ideal.ofBits, Ideal.ieee]
  rw [← EReal.coe_mul]; norm_num

/-- The head length's pattern is 64. -/
theorem n64 : Ideal.ofBits .f32 0x42800000#32 = ((64 : ℝ) : EReal) := by
  simp [Ideal.ofBits, Ideal.ieee]
  rw [← EReal.coe_mul]; norm_num

/-- The averaging matrix's entry is 1/64. -/
theorem n64th : Ideal.ofBits .f32 0x3C800000#32 = ((64⁻¹ : ℝ) : EReal) := by
  simp [Ideal.ofBits, Ideal.ieee]
  rw [← EReal.coe_mul]; norm_num

/-- The norms' epsilon is a positive real number. -/
theorem eps_pos : ∃ e : ℝ, 0 < e ∧ eps = (e : EReal) := by
  unfold eps
  simp [Ideal.ofBits, Ideal.ieee]
  exact ⟨8796093 * (2 ^ 43)⁻¹, by positivity, by rw [← EReal.coe_mul]⟩

/-- A quotient of real numbers by a real number other than zero. -/
theorem div_coe (a b : ℝ) (hb : b ≠ 0) : Ideal.div (a : EReal) (b : EReal) = ((a * b⁻¹ : ℝ) : EReal) := by
  have : (b : EReal) ≠ 0 := by exact_mod_cast hb
  unfold Ideal.div
  rw [if_neg this, ← EReal.coe_inv, ← EReal.coe_mul]

/-- The inverse root of a positive real number is real. -/
theorem rsqrt_re (r : ℝ) (h : 0 < r) : Re (Ideal.rsqrt (r : EReal)) := by
  refine ⟨(Real.sqrt r)⁻¹, ?_⟩
  show (if r < 0 then ⊥ else if r = 0 then ⊤ else (((Real.sqrt r)⁻¹ : ℝ) : EReal)) = _
  rw [if_neg h.le.not_gt, if_neg h.ne']

/-- A square is not negative. -/
theorem sq_nonneg (x : EReal) : 0 ≤ x * x := by
  induction x with
  | bot => simp
  | top => simp
  | coe r => exact_mod_cast mul_self_nonneg r

/-- The square of what is not a real number is +∞. -/
theorem sq_top (x : EReal) (h : ¬ Re x) : x * x = ⊤ := by
  induction x with
  | bot => simp
  | top => simp
  | coe r => exact absurd ⟨r, rfl⟩ h

/-- The norm of any row is real where its gain is: an infinite entry makes the inverse root 0. -/
theorem rms_re (x g : Fin 1024 → EReal) (hg : ∀ k, Re (g k)) (k : Fin 1024) : Re (rms x g k) := by
  obtain ⟨e, he, hE⟩ := eps_pos
  by_cases hx : ∀ k, Re (x k)
  · refine ((hx k).mul ?_).mul (hg k)
    choose r hr using hx
    have hs : (∑ k, x k * x k) = ((∑ k, r k * r k : ℝ) : EReal) := by
      rw [← coe_sum]
      exact Finset.sum_congr rfl fun k _ => by rw [hr k, ← EReal.coe_mul]
    rw [hs, n1024, div_coe _ _ (by norm_num), hE, ← EReal.coe_add]
    exact rsqrt_re _ (add_pos_of_nonneg_of_pos (mul_nonneg (Finset.sum_nonneg fun k _ => mul_self_nonneg _) (by norm_num)) he)
  · obtain ⟨i, hi⟩ := not_forall.1 hx
    have hs : (∑ k, x k * x k) = ⊤ := by
      have h := Finset.single_le_sum (f := fun k => x k * x k) (fun k _ => sq_nonneg (x k)) (Finset.mem_univ i)
      rw [sq_top _ hi] at h
      exact top_le_iff.1 h
    have hd : Ideal.div ⊤ ((1024 : ℝ) : EReal) = ⊤ := by
      have : ((1024 : ℝ) : EReal) ≠ 0 := by exact_mod_cast (by norm_num : (1024 : ℝ) ≠ 0)
      unfold Ideal.div
      rw [if_neg this, ← EReal.coe_inv]
      exact EReal.top_mul_coe_of_pos (by norm_num)
    have hr : Ideal.rsqrt (⊤ : EReal) = 0 := rfl
    unfold rms
    rw [hs, n1024, hd, hE, EReal.top_add_coe, hr, mul_zero, zero_mul]
    exact ⟨0, EReal.coe_zero.symm⟩

/-- A row of the projections: the normed row against the input weights. -/
def zrow (x g : Fin 1024 → EReal) (W : Fin 1024 → Fin 2560 → EReal) (j : Fin 2560) : EReal := ∑ k, rms x g k * W k j

/-- A projection is real where the norm's gain and its column of the weights are. -/
theorem zrow_re (x g : Fin 1024 → EReal) (W : Fin 1024 → Fin 2560 → EReal) (hg : ∀ k, Re (g k)) (j : Fin 2560)
    (hW : ∀ k, Re (W k j)) : Re (zrow x g W j) := Re.sum fun k => (rms_re x g hg k).mul (hW k)

/-- The root-mean-square norm of each head's 64 columns. -/
def headNorm (t : Fin 512 → EReal) (g : Fin 64 → EReal) (c : Fin 512) : EReal :=
  t c * Ideal.rsqrt (Ideal.div (∑ l : Fin 64, t ⟨64 * (c.val / 64) + l.val, by omega⟩ * t ⟨64 * (c.val / 64) + l.val, by omega⟩)
    (Ideal.ofBits .f32 0x42800000#32) + eps) * g ⟨c.val % 64, by omega⟩

/-- The matrix that averages each head's columns. -/
def avg (a b : Fin 512) : EReal := if a.val / 64 = b.val / 64 then Ideal.ofBits .f32 0x3C800000#32 else 0

/-- The same norm with the mean taken by a product with the averaging matrix, the squares split in a rounded part and a rest. -/
def headNorm2 (t : Fin 512 → EReal) (B : Fin 512 → Fin 512 → EReal) (g : Fin 512 → EReal) (c : Fin 512) : EReal :=
  t c * Ideal.rsqrt ((∑ k, t k * t k * B k c) + (∑ k, (t k * t k - t k * t k) * B k c) + eps) * g c

/-- The sum over the columns of one head. -/
theorem sum_head (f : Fin 512 → ℝ) (h : ℕ) (hh : h < 8) :
    (∑ k : Fin 512, if k.val / 64 = h then f k else 0) = ∑ l : Fin 64, f ⟨64 * h + l.val, by omega⟩ := by
  rw [← Finset.sum_filter]
  symm
  refine Finset.sum_bij (fun l _ => ⟨64 * h + l.val, by omega⟩) ?_ ?_ ?_ ?_
  · intro l _
    rw [Finset.mem_filter]
    exact ⟨Finset.mem_univ _, by dsimp only; omega⟩
  · intro a _ b _ hab
    have := congrArg Fin.val hab
    dsimp only at this
    exact Fin.ext (by omega)
  · intro k hk
    rw [Finset.mem_filter] at hk
    exact ⟨⟨k.val - 64 * h, by omega⟩, Finset.mem_univ _, Fin.ext (by dsimp only; omega)⟩
  · intro l _; rfl

/-- On real numbers the two norms agree. -/
theorem headNorm2_eq (t : Fin 512 → EReal) (g : Fin 64 → EReal) (ht : ∀ k, Re (t k)) (c : Fin 512) :
    headNorm2 t avg (fun c => g ⟨c.val % 64, by omega⟩) c = headNorm t g c := by
  choose r hr using ht
  have h1 : (∑ k, t k * t k * avg k c) = ((∑ k : Fin 512, if k.val / 64 = c.val / 64 then r k * r k * 64⁻¹ else 0 : ℝ) : EReal) := by
    rw [← coe_sum]
    refine Finset.sum_congr rfl fun k _ => ?_
    unfold avg
    by_cases h : k.val / 64 = c.val / 64
    · rw [if_pos h, if_pos h, n64th, hr k, ← EReal.coe_mul, ← EReal.coe_mul]
    · rw [if_neg h, if_neg h, mul_zero, EReal.coe_zero]
  have h2 : (∑ k, (t k * t k - t k * t k) * avg k c) = 0 := Finset.sum_eq_zero fun k _ => by
    rw [hr k, ← EReal.coe_mul, ← EReal.coe_sub, sub_self, EReal.coe_zero, zero_mul]
  have h3 : (∑ l : Fin 64, t ⟨64 * (c.val / 64) + l.val, by omega⟩ * t ⟨64 * (c.val / 64) + l.val, by omega⟩)
      = ((∑ l : Fin 64, r ⟨64 * (c.val / 64) + l.val, by omega⟩ * r ⟨64 * (c.val / 64) + l.val, by omega⟩ : ℝ) : EReal) := by
    rw [← coe_sum]
    exact Finset.sum_congr rfl fun l _ => by rw [hr, ← EReal.coe_mul]
  unfold headNorm2 headNorm
  rw [h1, h2, h3, add_zero, n64, div_coe _ _ (by norm_num), sum_head (fun k => r k * r k * 64⁻¹) (c.val / 64) (by omega), ← Finset.sum_mul]

/-- The shapes of the projections' arguments. -/
abbrev SWin : Shape := ⟨3, ![1, 1024, 2560]⟩
abbrev SHd : Shape := ⟨2, ![1, 64]⟩

/-- The projections' row at position `s` of sequence `b`. -/
def zat (X : SX.Idx → EReal) (G : SD.Idx → EReal) (W : SWin.Idx → EReal) (b : Fin 4) (s : Fin 8192) : Fin 2560 → EReal :=
  zrow (fun k => X (ix3 b s k)) (fun k => G (ix2 0 k)) (fun k j => W (ix3 0 k j))

/-- A query: the normed columns of its head, scaled. -/
def qAt (z : Fin 2560 → EReal) (g : Fin 64 → EReal) (c : Fin 512) : EReal :=
  headNorm (fun c => z ⟨c.val, by omega⟩) g c * Ideal.ofBits .f32 0x3E000000#32

/-- A key: the normed columns of its head. -/
def kAt (z : Fin 2560 → EReal) (g : Fin 64 → EReal) (c : Fin 512) : EReal := headNorm (fun c => z ⟨512 + c.val, by omega⟩) g c

/-- A value. -/
def vAt (z : Fin 2560 → EReal) (c : Fin 512) : EReal := z ⟨1024 + c.val, by omega⟩

/-- A gated value. -/
def gluAt (z : Fin 2560 → EReal) (c : Fin 512) : EReal := z ⟨1536 + c.val, by omega⟩ * Ideal.logistic (z ⟨2048 + c.val, by omega⟩)

end Cert.Proj
-- ==== Proof.ProjPay.lean ====
module

public import proofs.«01_k».proof.Proof.Gen.Kernel2Ideal.Frame
public import proofs.«01_k».proof.Proof.Proj
public import Idealize.ShloMosaic.Lib.Pointwise
public import Idealize.ShloMosaic.Lib.Pipeline.ValueKit

@[expose] public section

set_option maxRecDepth 16384

noncomputable section

/-! The projections' body: each value it stores, from what its loads hold. -/

namespace Cert.Kernel2Ideal.ProjPay

open Cert.Kernel2Ideal Cert.Kernel2Ideal.Gen Cert.Tail Cert.Proj Idealize.ShloMosaic Idealize.ShloMosaic.TcCoe

/-- The normed row. -/
theorem u_val (v0 : FVec Ideal S512x1024 .f32) (v2 : FVec Ideal S1x1024 .f32) (p : Fin 512) (x g : Fin 1024 → EReal)
    (hx : ∀ d, @Eq EReal (v0 (ix2 p d)) (x d)) (hg : ∀ d, @Eq EReal (v2 (ix2 0 d)) (g d)) (d : Fin 1024) :
    @Eq EReal (k0_pay2 (F := Ideal) v0 v2 (ix2 p d)) (rms x g d) := by
  unfold k0_pay2
  pointwise [hx, hg]
  rfl

set_option maxHeartbeats 1600000 in
/-- The queries before their scale. -/
theorem q_val (v0 : FVec Ideal S512x1024 .f32) (v2 : FVec Ideal S1x1024 .f32) (v17 : FVec Ideal S1024x512 .bf16) (v20 : FVec Ideal S1x512 .f32) (v27 v30 : FVec Ideal S512x512 .bf16)
    (p : Fin 512) (u : Fin 1024 → EReal) (W : Fin 1024 → Fin 512 → EReal) (B : Fin 512 → Fin 512 → EReal) (g : Fin 512 → EReal)
    (hu : ∀ k, @Eq EReal (k0_pay2 (F := Ideal) v0 v2 (ix2 p k)) (u k)) (hW : ∀ k j, @Eq EReal (v17 (ix2 k j)) (W k j)) (hg : ∀ j, @Eq EReal (v20 (ix2 0 j)) (g j))
    (hB : ∀ k j, @Eq EReal (v27 (ix2 k j)) (B k j)) (hB' : ∀ k j, @Eq EReal (v30 (ix2 k j)) (B k j)) (c : Fin 512) :
    @Eq EReal (k0_pay3 (F := Ideal) v0 v2 v17 v20 v27 v30 (ix2 p c)) (headNorm2 (fun c => ∑ k, u k * W k c) B g c) := by
  unfold k0_pay3
  generalize k0_pay2 (F := Ideal) v0 v2 = N at hu ⊢
  pointwise [hu, hW, hg, hB, hB']
  rfl

/-- The queries. -/
theorem scale_val (v39 : FVec Ideal S512x512 .f32) (p c : Fin 512) :
    @Eq EReal (k0_pay4 (F := Ideal) v39 (ix2 p c)) (@HMul.hMul EReal EReal EReal _ (v39 (ix2 p c)) (Ideal.ofBits .f32 0x3E000000#32)) := by
  unfold k0_pay4
  pointwise

set_option maxHeartbeats 1600000 in
/-- The keys. -/
theorem k_val (N : FVec Ideal S512x1024 .bf16) (v44 : FVec Ideal S1024x512 .bf16) (v47 : FVec Ideal S1x512 .f32) (v54 v57 : FVec Ideal S512x512 .bf16)
    (p : Fin 512) (u : Fin 1024 → EReal) (W : Fin 1024 → Fin 512 → EReal) (B : Fin 512 → Fin 512 → EReal) (g : Fin 512 → EReal)
    (hu : ∀ k, @Eq EReal (N (ix2 p k)) (u k)) (hW : ∀ k j, @Eq EReal (v44 (ix2 k j)) (W k j)) (hg : ∀ j, @Eq EReal (v47 (ix2 0 j)) (g j))
    (hB : ∀ k j, @Eq EReal (v54 (ix2 k j)) (B k j)) (hB' : ∀ k j, @Eq EReal (v57 (ix2 k j)) (B k j)) (c : Fin 512) :
    @Eq EReal (k0_pay5 (F := Ideal) N v44 v47 v54 v57 (ix2 p c)) (headNorm2 (fun c => ∑ k, u k * W k c) B g c) := by
  unfold k0_pay5
  pointwise [hu, hW, hg, hB, hB']
  rfl

/-- The values. -/
theorem v_val (N : FVec Ideal S512x1024 .bf16) (v68 : FVec Ideal S1024x512 .bf16) (p : Fin 512) (u : Fin 1024 → EReal) (W : Fin 1024 → Fin 512 → EReal)
    (hu : ∀ k, @Eq EReal (N (ix2 p k)) (u k)) (hW : ∀ k j, @Eq EReal (v68 (ix2 k j)) (W k j)) (c : Fin 512) :
    @Eq EReal (k0_pay6 (F := Ideal) N v68 (ix2 p c)) (∑ k, u k * W k c) := by
  unfold k0_pay6
  pointwise [hu, hW]

/-- The gated values. -/
theorem glu_val (N : FVec Ideal S512x1024 .bf16) (v72 v75 : FVec Ideal S1024x512 .bf16) (p : Fin 512) (u : Fin 1024 → EReal) (W W' : Fin 1024 → Fin 512 → EReal)
    (hu : ∀ k, @Eq EReal (N (ix2 p k)) (u k)) (hW : ∀ k j, @Eq EReal (v72 (ix2 k j)) (W k j)) (hW' : ∀ k j, @Eq EReal (v75 (ix2 k j)) (W' k j)) (c : Fin 512) :
    @Eq EReal (k0_pay1 (F := Ideal) N v72 v75 (ix2 p c)) ((∑ k, u k * W k c) * Ideal.logistic (∑ k, u k * W' k c)) := by
  unfold k0_pay1
  pointwise [hu, hW, hW']

end Cert.Kernel2Ideal.ProjPay

end
-- ==== Proof.ProjWin.lean ====
module

public import proofs.«01_k».proof.Proof.Gen.Kernel2Ideal.Frame
public import proofs.«01_k».proof.Proof.Proj
public import proofs.«01_k».proof.Proof.Table
public import Idealize.ShloMosaic.Lib.Pointwise
public import Idealize.ShloMosaic.Lib.Pipeline.ValueKit

@[expose] public section

set_option maxRecDepth 16384

noncomputable section

/-! The projections' windows, read against the program's arguments. -/

namespace Cert.Kernel2Ideal.ProjWin

open Cert.Kernel2Ideal Cert.Kernel2Ideal.Gen Cert.Tail Cert.Proj Cert.Words Idealize.ShloMosaic Idealize.ShloMosaic.TcCoe Idealize.SL.Sem
open Cert.KernelIdeal.Table (fdv fdv_apply)

variable (m : (ℓ : Loc nD τ sig) → Buf (Elt Ideal) ℓ)

/-- Every window's block index at every grid point. -/
theorem idx : ∀ t : Fin cfg0.N,
    win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] ∧ win0_9.index t = ![t.val, 0]
    ∧ t.val < 64 :=
  (by decide +kernel : ∀ t : Fin grid0.N, _)

/-- There are 64 grid points. -/
theorem lt64 (t : Fin cfg0.N) : t.val < 64 := (idx t).2.2.2.2.2.2.2.2.2.2

/-- The hidden state as rows, cast. -/
theorem cast0 (x : FVec Ideal S4x8192x1024 .f32) (i : Fin 32768) (k : Fin 1024) : @Eq EReal ((shapeCast S32768x1024 x shapeCasts_S4x8192x1024_S32768x1024) (ix2 i k)) (x (ix3 ⟨i.val / 8192, by omega⟩ ⟨i.val % 8192, by omega⟩ k)) := by
  pointwise

/-- The norm's gain, cast. -/
theorem cast1 (x : FVec Ideal S1x1024 .f32) (k : Fin 1024) : @Eq EReal ((shapeCast S1x1024 (shapeCast S1024 x shapeCasts_S1x1024_S1024) shapeCasts_S1024_S1x1024) (ix2 0 k)) (x (ix2 0 k)) := by
  pointwise

/-- The input weights, cast. -/
theorem cast2 (x : FVec Ideal S1x1024x2560 .f32) (i : Fin 1024) (k : Fin 2560) : @Eq EReal ((truncf (F := Ideal) .bf16 (shapeCast S1024x2560 x shapeCasts_S1x1024x2560_S1024x2560) bitsLt_bf16_f32) (ix2 i k)) (x (ix3 0 i k)) := by
  pointwise

/-- A head's gain repeated over the heads, cast. -/
theorem cast4 (x : FVec Ideal S1x64 .f32) (k : Fin 512) :
    @Eq EReal ((shapeCast S1x512 (shapeCast S512 (broadcastInDim S8x64 ![0, 1] bcast_S1x64_S8x64_0_1 (shapeCast S1x64 (shapeCast S64 x shapeCasts_S1x64_S64) shapeCasts_S64_S1x64)) shapeCasts_S8x64_S512) shapeCasts_S512_S1x512) (ix2 0 k))
      (x (ix2 0 ⟨k.val % 64, by omega⟩)) := by
  pointwise

/-- The columns' heads. -/
def laneV : IVec S512 32 := fdv bcast_S_S512 (iotaInDim S512 32 0)

/-- A column's head. -/
theorem laneV_apply (k : Fin 512) : laneV (ix1 k) = BitVec.ofNat 32 (k.val / 64) := by
  unfold laneV
  rw [fdv_apply]
  pointwise
  exact fd64_small ⟨k.val, by omega⟩

/-- The averaging matrix as the program makes it. -/
def avgV : FVec Ideal S512x512 .bf16 :=
  truncf .bf16 (select
    (cmpi .eq (broadcastInDim S512x512 ![0, 1] bcast_S512x1_S512x512_0_1 (broadcastInDim S512x1 ![0] bcast_S512_S512x1_0 laneV))
      (broadcastInDim S512x512 ![0, 1] bcast_S1x512_S512x512_0_1 (broadcastInDim S1x512 ![1] bcast_S512_S1x512_1 laneV)))
    (broadcastInDim S512x512 ![] bcast_S_S512x512 (constant S_ .f32 0x3C800000#32))
    (broadcastInDim S512x512 ![] bcast_S_S512x512 (constant S_ .f32 0x00000000#32))) bitsLt_bf16_f32

/-- The comparison of two heads, as a bit. -/
theorem head_bits : ∀ a b : Fin 8, IntOp.cmpi .eq (BitVec.ofNat 32 a.val) (BitVec.ofNat 32 b.val) = if a.val = b.val then 1#1 else 0#1 := by decide +kernel

/-- Its entries. -/
theorem avgV_apply (a b : Fin 512) : @Eq EReal (avgV (ix2 a b)) (avg a b) := by
  unfold avgV
  pointwise [laneV_apply]
  have h := head_bits ⟨a.val / 64, by omega⟩ ⟨b.val / 64, by omega⟩
  simp only at h
  rw [h]
  unfold avg
  by_cases e : a.val / 64 = b.val / 64
  · rw [if_pos e, if_pos e]; rfl
  · rw [if_neg e, if_neg e]; rfl

set_option maxHeartbeats 1600000 in
/-- The hidden state as rows. -/
theorem host0 (c : Dev nD) (i : Fin 32768) (k : Fin 1024) : @Eq EReal (V m c main_v9 (ix2 i k)) (m ((c.tc : Thread nD τ).loc main_arg0) (ix3 ⟨i.val / 8192, by omega⟩ ⟨i.val % 8192, by omega⟩ k)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast0 (m ((c.tc : Thread nD τ).loc main_arg0)) i k

set_option maxHeartbeats 1600000 in
/-- The norm's gain. -/
theorem host1 (c : Dev nD) (k : Fin 1024) : @Eq EReal (V m c main_v21 (ix2 0 k)) (m ((c.tc : Thread nD τ).loc main_arg1) (ix2 0 k)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast1 (m ((c.tc : Thread nD τ).loc main_arg1)) k

set_option maxHeartbeats 1600000 in
/-- The input weights. -/
theorem host2 (c : Dev nD) (i : Fin 1024) (k : Fin 2560) : @Eq EReal (V m c main_v23 (ix2 i k)) (m ((c.tc : Thread nD τ).loc main_arg2) (ix3 0 i k)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast2 (m ((c.tc : Thread nD τ).loc main_arg2)) i k

set_option maxHeartbeats 1600000 in
/-- The averaging matrix. -/
theorem host3 (c : Dev nD) (a b : Fin 512) : @Eq EReal (V m c main_v8 (ix2 a b)) (avg a b) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp <;> (try dsimp only [Matrix.cons_val]) <;> (try after_results_simp)
  exact Eq.trans (b := avgV (ix2 a b)) rfl (avgV_apply a b)

set_option maxHeartbeats 1600000 in
/-- The queries' gain repeated over the heads, entry by entry. -/
theorem host4 (c : Dev nD) (k : Fin 512) : @Eq EReal (V m c main_v14 (ix2 0 k)) (m ((c.tc : Thread nD τ).loc main_arg3) (ix2 0 ⟨k.val % 64, by omega⟩)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast4 (m ((c.tc : Thread nD τ).loc main_arg3)) k

set_option maxHeartbeats 1600000 in
/-- The keys' gain repeated over the heads, entry by entry. -/
theorem host5 (c : Dev nD) (k : Fin 512) : @Eq EReal (V m c main_v19 (ix2 0 k)) (m ((c.tc : Thread nD τ).loc main_arg4) (ix2 0 ⟨k.val % 64, by omega⟩)) := by
  simp only [V, hostOps0, hostOps0_1, hostOps0_2, hostOps0_3, hostOps0_4, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast4 (m ((c.tc : Thread nD τ).loc main_arg4)) k

set_option maxHeartbeats 1600000 in
/-- A row of the block of the hidden state. -/
theorem read0 (c : Dev nD) (t : Fin cfg0.N) (q : Fin 512) (k : Fin 1024) : @Eq EReal (iblk m c 0 t (ix2 q k)) (m ((c.tc : Thread nD τ).loc main_arg0) (ix3 ⟨t.val / 16, by have := lt64 t; omega⟩ ⟨512 * (t.val % 16) + q.val, by omega⟩ k)) := by
  refine Eq.trans ?_ ((host0 m c ⟨512 * t.val + q.val, by have := lt64 t; omega⟩ k).trans (congrArg₂ (fun b s => m ((c.tc : Thread nD τ).loc main_arg0) (ix3 b s k)) (Fin.ext (by dsimp only; omega)) (Fin.ext (by dsimp only; omega))))
  blk_ext [iblk, idx t]

set_option maxHeartbeats 1600000 in
/-- The norm's gain. -/
theorem read1 (c : Dev nD) (t : Fin cfg0.N) (k : Fin 1024) : @Eq EReal (iblk m c 1 t (ix2 0 k)) (m ((c.tc : Thread nD τ).loc main_arg1) (ix2 0 k)) := by
  refine Eq.trans ?_ (host1 m c k)
  blk_ext [iblk, idx t]

set_option maxHeartbeats 1600000 in
/-- The input weights. -/
theorem read2 (c : Dev nD) (t : Fin cfg0.N) (i : Fin 1024) (k : Fin 2560) : @Eq EReal (iblk m c 2 t (ix2 i k)) (m ((c.tc : Thread nD τ).loc main_arg2) (ix3 0 i k)) := by
  refine Eq.trans ?_ (host2 m c i k)
  blk_ext [iblk, idx t]

set_option maxHeartbeats 1600000 in
/-- The averaging matrix. -/
theorem read3 (c : Dev nD) (t : Fin cfg0.N) (a b : Fin 512) : @Eq EReal (iblk m c 3 t (ix2 a b)) (avg a b) := by
  refine Eq.trans ?_ (host3 m c a b)
  blk_ext [iblk, idx t]

set_option maxHeartbeats 1600000 in
/-- The queries' gain. -/
theorem read4 (c : Dev nD) (t : Fin cfg0.N) (k : Fin 512) : @Eq EReal (iblk m c 4 t (ix2 0 k)) (m ((c.tc : Thread nD τ).loc main_arg3) (ix2 0 ⟨k.val % 64, by omega⟩)) := by
  refine Eq.trans ?_ (host4 m c k)
  blk_ext [iblk, idx t]

set_option maxHeartbeats 1600000 in
/-- The keys' gain. -/
theorem read5 (c : Dev nD) (t : Fin cfg0.N) (k : Fin 512) : @Eq EReal (iblk m c 5 t (ix2 0 k)) (m ((c.tc : Thread nD τ).loc main_arg4) (ix2 0 ⟨k.val % 64, by omega⟩)) := by
  refine Eq.trans ?_ (host5 m c k)
  blk_ext [iblk, idx t]

end Cert.Kernel2Ideal.ProjWin

end
-- ==== Proof.ProjValue.lean ====
module

public import proofs.«01_k».proof.Proof.ProjPay
public import proofs.«01_k».proof.Proof.ProjWin
public import proofs.«01_k».proof.Proof.Gen.Kernel2Ideal.Frame

@[expose] public section

set_option maxRecDepth 16384

noncomputable section

/-! The projections' four result arrays are their formulas over the program's arguments. -/

namespace Cert.Kernel2Ideal.ProjValue

open Cert.Kernel2Ideal Cert.Kernel2Ideal.Gen Cert.Kernel2Ideal.ProjPay Cert.Kernel2Ideal.ProjWin Cert.Tail Cert.Proj Idealize.ShloMosaic Idealize.ShloMosaic.TcCoe Idealize.SL.Sem
open Idealize.ShloMosaic.Pipeline (Dat)

variable (m : (ℓ : Loc nD τ sig) → Buf (Elt Ideal) ℓ)

/-- A load of columns of the input weights reads the weights at the columns' offset. -/
theorem ld_cols (X : FVec Ideal S1024x2560 .bf16) (o : ℕ) (inb : ∀ a, (![0, o] : Fin 2 → ℕ) a + (![1024, 512] : Fin 2 → ℕ) a ≤ S1024x2560.size a)
    (i : Fin 1024) (j : Fin 512) (j' : Fin 2560) (hj : j'.val = o + j.val) :
    View.ld (Val := Elt Ideal) (e' := .bf16) X (Rect.unit (s := S1024x2560) ![0, o] ![1024, 512] inb) (ix2 i j) = X (ix2 i j') := by
  refine congrArg X ?_
  funext a
  apply Fin.ext
  refine (Rect.idx_unit_val (s := S1024x2560) ![0, o] ![1024, 512] inb (ix2 i j) a).trans ?_
  match a with
  | ⟨0, _⟩ => exact Nat.zero_add _
  | ⟨1, _⟩ => exact hj.symm

section Block

variable (X0 : FVec Ideal S512x1024 .f32) (X1 : FVec Ideal S1x1024 .f32) (X2 : FVec Ideal S1024x2560 .bf16) (X3 : FVec Ideal S512x512 .bf16) (X4 X5 : FVec Ideal S1x512 .f32)
  (p : Fin 512) (x g : Fin 1024 → EReal) (W : Fin 1024 → Fin 2560 → EReal) (gq gk : Fin 64 → EReal)

/-- The queries of a block's row. -/
theorem q_out (h0 : ∀ k, @Eq EReal (X0 (ix2 p k)) (x k)) (h1 : ∀ k, @Eq EReal (X1 (ix2 0 k)) (g k)) (h2 : ∀ k j, @Eq EReal (X2 (ix2 k j)) (W k j))
    (h3 : ∀ a b, @Eq EReal (X3 (ix2 a b)) (avg a b)) (hz : ∀ j : Fin 2560, j.val < 1024 → Re (zrow x g W j)) (h4 : ∀ k : Fin 512, @Eq EReal (X4 (ix2 0 k)) (gq ⟨k.val % 64, by omega⟩)) (c : Fin 512) :
    @Eq EReal (out0_6 (F := Ideal) X0 X1 X2 X3 X4 X5 (ix2 p c)) (qAt (zrow x g W) gq c) := by
  unfold_out out0_6
  frame_out
  have hu := u_val X0 X1 p x g h0 h1
  refine (scale_val _ p c).trans (congrArg (fun q : EReal => q * Ideal.ofBits .f32 0x3E000000#32) ?_)
  refine (q_val X0 X1 _ X4 X3 X3 p (rms x g) (fun k j => W k ⟨j.val, by omega⟩) avg (fun k => gq ⟨k.val % 64, by omega⟩) hu
    (fun k j => (ld_cols X2 0 _ k j ⟨j.val, by omega⟩ (Nat.zero_add _).symm).trans (h2 _ _)) h4 h3 h3 c).trans ?_
  exact headNorm2_eq (fun c => zrow x g W ⟨c.val, by omega⟩) gq (fun k => hz _ (by dsimp only <;> omega)) c

/-- The keys of a block's row. -/
theorem k_out (h0 : ∀ k, @Eq EReal (X0 (ix2 p k)) (x k)) (h1 : ∀ k, @Eq EReal (X1 (ix2 0 k)) (g k)) (h2 : ∀ k j, @Eq EReal (X2 (ix2 k j)) (W k j))
    (h3 : ∀ a b, @Eq EReal (X3 (ix2 a b)) (avg a b)) (hz : ∀ j : Fin 2560, j.val < 1024 → Re (zrow x g W j)) (h5 : ∀ k : Fin 512, @Eq EReal (X5 (ix2 0 k)) (gk ⟨k.val % 64, by omega⟩)) (c : Fin 512) :
    @Eq EReal (out0_7 (F := Ideal) X0 X1 X2 X3 X4 X5 (ix2 p c)) (kAt (zrow x g W) gk c) := by
  unfold_out out0_7
  frame_out
  have hu := u_val X0 X1 p x g h0 h1
  refine (k_val _ _ X5 X3 X3 p (rms x g) (fun k j => W k ⟨512 + j.val, by omega⟩) avg (fun k => gk ⟨k.val % 64, by omega⟩) hu
    (fun k j => (ld_cols X2 512 _ k j ⟨512 + j.val, by omega⟩ rfl).trans (h2 _ _)) h5 h3 h3 c).trans ?_
  exact headNorm2_eq (fun c => zrow x g W ⟨512 + c.val, by omega⟩) gk (fun k => hz _ (by dsimp only <;> omega)) c

/-- The values of a block's row. -/
theorem v_out (h0 : ∀ k, @Eq EReal (X0 (ix2 p k)) (x k)) (h1 : ∀ k, @Eq EReal (X1 (ix2 0 k)) (g k)) (h2 : ∀ k j, @Eq EReal (X2 (ix2 k j)) (W k j)) (c : Fin 512) :
    @Eq EReal (out0_8 (F := Ideal) X0 X1 X2 X3 X4 X5 (ix2 p c)) (vAt (zrow x g W) c) := by
  unfold_out out0_8
  frame_out
  have hu := u_val X0 X1 p x g h0 h1
  exact v_val _ _ p (rms x g) (fun k j => W k ⟨1024 + j.val, by omega⟩) hu
    (fun k j => (ld_cols X2 1024 _ k j ⟨1024 + j.val, by omega⟩ rfl).trans (h2 _ _)) c

/-- The gated values of a block's row. -/
theorem glu_out (h0 : ∀ k, @Eq EReal (X0 (ix2 p k)) (x k)) (h1 : ∀ k, @Eq EReal (X1 (ix2 0 k)) (g k)) (h2 : ∀ k j, @Eq EReal (X2 (ix2 k j)) (W k j)) (c : Fin 512) :
    @Eq EReal (out0_9 (F := Ideal) X0 X1 X2 X3 X4 X5 (ix2 p c)) (gluAt (zrow x g W) c) := by
  unfold_out out0_9
  frame_out
  have hu := u_val X0 X1 p x g h0 h1
  exact glu_val _ _ _ p (rms x g) (fun k j => W k ⟨1536 + j.val, by omega⟩) (fun k j => W k ⟨2048 + j.val, by omega⟩) hu
    (fun k j => (ld_cols X2 1536 _ k j ⟨1536 + j.val, by omega⟩ rfl).trans (h2 _ _))
    (fun k j => (ld_cols X2 2048 _ k j ⟨2048 + j.val, by omega⟩ rfl).trans (h2 _ _)) c

end Block

/-- The row of projections of row `i` of all sequences under one another. -/
def zRow (X : SX.Idx → EReal) (G : SD.Idx → EReal) (W : SWin.Idx → EReal) (i : Fin 32768) : Fin 2560 → EReal :=
  zat X G W ⟨i.val / 8192, by omega⟩ ⟨i.val % 8192, by omega⟩

/-- All queries. -/
def qArr (X : SX.Idx → EReal) (G : SD.Idx → EReal) (W : SWin.Idx → EReal) (GQ : SHd.Idx → EReal) : FVec Ideal S32768x512 .bf16 :=
  fun y => qAt (zRow X G W ⟨(y 0).val, (y 0).isLt⟩) (fun k => GQ (ix2 0 k)) ⟨(y 1).val, (y 1).isLt⟩

/-- All keys. -/
def kArr (X : SX.Idx → EReal) (G : SD.Idx → EReal) (W : SWin.Idx → EReal) (GK : SHd.Idx → EReal) : FVec Ideal S32768x512 .f32 :=
  fun y => kAt (zRow X G W ⟨(y 0).val, (y 0).isLt⟩) (fun k => GK (ix2 0 k)) ⟨(y 1).val, (y 1).isLt⟩

/-- All values. -/
def vArr (X : SX.Idx → EReal) (G : SD.Idx → EReal) (W : SWin.Idx → EReal) : FVec Ideal S32768x512 .f32 :=
  fun y => vAt (zRow X G W ⟨(y 0).val, (y 0).isLt⟩) ⟨(y 1).val, (y 1).isLt⟩

/-- All gated values. -/
def gluArr (X : SX.Idx → EReal) (G : SD.Idx → EReal) (W : SWin.Idx → EReal) : FVec Ideal S32768x512 .f32 :=
  fun y => gluAt (zRow X G W ⟨(y 0).val, (y 0).isLt⟩) ⟨(y 1).val, (y 1).isLt⟩

section Arrays

variable (c : Dev nD) (h1 : ∀ i, Re (m ((c.tc : Thread nD τ).loc main_arg1) i))
  (h2 : ∀ (k : Fin 1024) (j : Fin 2560), j.val < 1024 → Re (m ((c.tc : Thread nD τ).loc main_arg2) (ix3 0 k j)))

include h1 h2 in
/-- The queries an invocation stores. -/
theorem q_at (t : Fin cfg0.N) (p d : Fin 512) :
    @Eq EReal (out0_6 (F := Ideal) (iblk m c 0 t) (iblk m c 1 t) (iblk m c 2 t) (iblk m c 3 t) (iblk m c 4 t) (iblk m c 5 t) (ix2 p d))
      (qAt (zat (m ((c.tc : Thread nD τ).loc main_arg0)) (m ((c.tc : Thread nD τ).loc main_arg1)) (m ((c.tc : Thread nD τ).loc main_arg2)) ⟨t.val / 16, by have := lt64 t; omega⟩ ⟨512 * (t.val % 16) + p.val, by omega⟩) (fun k => (m ((c.tc : Thread nD τ).loc main_arg3)) (ix2 0 k)) d) :=
  q_out _ _ _ _ _ _ p (fun k => (m ((c.tc : Thread nD τ).loc main_arg0)) (ix3 ⟨t.val / 16, by have := lt64 t; omega⟩ ⟨512 * (t.val % 16) + p.val, by omega⟩ k)) (fun k => (m ((c.tc : Thread nD τ).loc main_arg1)) (ix2 0 k)) (fun k j => (m ((c.tc : Thread nD τ).loc main_arg2)) (ix3 0 k j)) (fun k => (m ((c.tc : Thread nD τ).loc main_arg3)) (ix2 0 k))
    (read0 m c t p) (read1 m c t) (read2 m c t) (read3 m c t) (fun j hj => zrow_re _ _ _ (fun _ => h1 _) j (fun k => h2 k j hj)) (read4 m c t) d

include h1 h2 in
/-- After the run the queries are their formula. -/
theorem q_final : (dats m 0 c).arrAt 6 cfg0.N = qArr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6]
  obtain ⟨p, d, rfl⟩ : ∃ p d : Fin 512, y = ix2 p d := ⟨y 0, y 1, eq_ix2 y⟩
  refine (q_at m c h1 h2 t p d).trans ?_
  have := lt64 t
  unfold qArr zRow
  congr 1 <;> [congr 1 <;> apply Fin.ext <;> blk_simp [idx t] <;> (try dsimp only) <;> (try omega); skip] <;> (try apply Fin.ext) <;> blk_simp [idx t] <;> (try dsimp only) <;> (try omega)

include h1 h2 in
/-- The keys an invocation stores. -/
theorem k_at (t : Fin cfg0.N) (p d : Fin 512) :
    @Eq EReal (out0_7 (F := Ideal) (iblk m c 0 t) (iblk m c 1 t) (iblk m c 2 t) (iblk m c 3 t) (iblk m c 4 t) (iblk m c 5 t) (ix2 p d))
      (kAt (zat (m ((c.tc : Thread nD τ).loc main_arg0)) (m ((c.tc : Thread nD τ).loc main_arg1)) (m ((c.tc : Thread nD τ).loc main_arg2)) ⟨t.val / 16, by have := lt64 t; omega⟩ ⟨512 * (t.val % 16) + p.val, by omega⟩) (fun k => (m ((c.tc : Thread nD τ).loc main_arg4)) (ix2 0 k)) d) :=
  k_out _ _ _ _ _ _ p (fun k => (m ((c.tc : Thread nD τ).loc main_arg0)) (ix3 ⟨t.val / 16, by have := lt64 t; omega⟩ ⟨512 * (t.val % 16) + p.val, by omega⟩ k)) (fun k => (m ((c.tc : Thread nD τ).loc main_arg1)) (ix2 0 k)) (fun k j => (m ((c.tc : Thread nD τ).loc main_arg2)) (ix3 0 k j)) (fun k => (m ((c.tc : Thread nD τ).loc main_arg4)) (ix2 0 k))
    (read0 m c t p) (read1 m c t) (read2 m c t) (read3 m c t) (fun j hj => zrow_re _ _ _ (fun _ => h1 _) j (fun k => h2 k j hj)) (read5 m c t) d

include h1 h2 in
/-- After the run the keys are their formula. -/
theorem k_final : (dats m 0 c).arrAt 7 cfg0.N = kArr (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 7 _ (by decide +kernel) fun t _ y => ?_
  blk_simp
  rw [after0_7]
  obtain ⟨p, d, rfl⟩ : ∃ p d : Fin 512, y = ix2 p d := ⟨y 0, y 1, eq_ix2 y⟩
  refine (k_at m c h1 h2 t p d).trans ?_
  have := lt64 t
  unfold kArr zRow
  congr 1 <;> [congr 1 <;> apply Fin.ext <;> blk_simp [idx t] <;> (try dsimp only) <;> (try omega); skip] <;> (try apply Fin.ext) <;> blk_simp [idx t] <;> (try dsimp only) <;> (try omega)

/-- The values an invocation stores. -/
theorem v_at (t : Fin cfg0.N) (p d : Fin 512) :
    @Eq EReal (out0_8 (F := Ideal) (iblk m c 0 t) (iblk m c 1 t) (iblk m c 2 t) (iblk m c 3 t) (iblk m c 4 t) (iblk m c 5 t) (ix2 p d))
      (vAt (zat (m ((c.tc : Thread nD τ).loc main_arg0)) (m ((c.tc : Thread nD τ).loc main_arg1)) (m ((c.tc : Thread nD τ).loc main_arg2)) ⟨t.val / 16, by have := lt64 t; omega⟩ ⟨512 * (t.val % 16) + p.val, by omega⟩) d) :=
  v_out _ _ _ _ _ _ p (fun k => (m ((c.tc : Thread nD τ).loc main_arg0)) (ix3 ⟨t.val / 16, by have := lt64 t; omega⟩ ⟨512 * (t.val % 16) + p.val, by omega⟩ k)) (fun k => (m ((c.tc : Thread nD τ).loc main_arg1)) (ix2 0 k)) (fun k j => (m ((c.tc : Thread nD τ).loc main_arg2)) (ix3 0 k j))
    (read0 m c t p) (read1 m c t) (read2 m c t)  d

/-- After the run the values are their formula. -/
theorem v_final : (dats m 0 c).arrAt 8 cfg0.N = vArr (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  obtain ⟨p, d, rfl⟩ : ∃ p d : Fin 512, y = ix2 p d := ⟨y 0, y 1, eq_ix2 y⟩
  refine (v_at m c t p d).trans ?_
  have := lt64 t
  unfold vArr zRow
  congr 1 <;> [congr 1 <;> apply Fin.ext <;> blk_simp [idx t] <;> (try dsimp only) <;> (try omega); skip] <;> (try apply Fin.ext) <;> blk_simp [idx t] <;> (try dsimp only) <;> (try omega)

/-- The gated values an invocation stores. -/
theorem glu_at (t : Fin cfg0.N) (p d : Fin 512) :
    @Eq EReal (out0_9 (F := Ideal) (iblk m c 0 t) (iblk m c 1 t) (iblk m c 2 t) (iblk m c 3 t) (iblk m c 4 t) (iblk m c 5 t) (ix2 p d))
      (gluAt (zat (m ((c.tc : Thread nD τ).loc main_arg0)) (m ((c.tc : Thread nD τ).loc main_arg1)) (m ((c.tc : Thread nD τ).loc main_arg2)) ⟨t.val / 16, by have := lt64 t; omega⟩ ⟨512 * (t.val % 16) + p.val, by omega⟩) d) :=
  glu_out _ _ _ _ _ _ p (fun k => (m ((c.tc : Thread nD τ).loc main_arg0)) (ix3 ⟨t.val / 16, by have := lt64 t; omega⟩ ⟨512 * (t.val % 16) + p.val, by omega⟩ k)) (fun k => (m ((c.tc : Thread nD τ).loc main_arg1)) (ix2 0 k)) (fun k j => (m ((c.tc : Thread nD τ).loc main_arg2)) (ix3 0 k j))
    (read0 m c t p) (read1 m c t) (read2 m c t)  d

/-- After the run the gated values are their formula. -/
theorem glu_final : (dats m 0 c).arrAt 9 cfg0.N = gluArr (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  obtain ⟨p, d, rfl⟩ : ∃ p d : Fin 512, y = ix2 p d := ⟨y 0, y 1, eq_ix2 y⟩
  refine (glu_at m c t p d).trans ?_
  have := lt64 t
  unfold gluArr zRow
  congr 1 <;> [congr 1 <;> apply Fin.ext <;> blk_simp [idx t] <;> (try dsimp only) <;> (try omega); skip] <;> (try apply Fin.ext) <;> blk_simp [idx t] <;> (try dsimp only) <;> (try omega)

end Arrays

end Cert.Kernel2Ideal.ProjValue

end
-- ==== Proof.ProjRef.lean ====
module

public import proofs.«01_k».proof.Proof.Gen.Reference2Ideal.Read
public import proofs.«01_k».proof.Proof.Proj
public import Idealize.ShloMosaic.Lib.Pointwise
public import Idealize.ShloMosaic.Lib.Pipeline.ValueKit

@[expose] public section

set_option maxRecDepth 16384

noncomputable section

/-! The reference's projections read at an index. -/

namespace Cert.Reference2Ideal.ProjRef

open Cert.Reference2Ideal Cert.Reference2Ideal.Gen Cert.Reference2Ideal.Read Cert.Tail Cert.Proj Idealize.ShloMosaic Idealize.ShloMosaic.TcCoe Idealize.SL.Sem

/-- The normed rows. -/
theorem norm_at (x0 : FVec Ideal S4x8192x1024 .f32) (x1 : FVec Ideal S1x1024 .f32) (x2 : FVec Ideal S1x1024x2560 .f32) (b : Fin 4) (s : Fin 8192) (d : Fin 1024) :
    @Eq EReal (val_main_v13 (F := Ideal) x0 x1 (ix3 b s d)) (rms (fun k => x0 (ix3 b s k)) (fun k => x1 (ix2 0 k)) d) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projections' rows. -/
theorem z_at (x0 : FVec Ideal S4x8192x1024 .f32) (x1 : FVec Ideal S1x1024 .f32) (x2 : FVec Ideal S1x1024x2560 .f32) (b : Fin 4) (s : Fin 8192) (j : Fin 2560) :
    @Eq EReal (val_main_v15 (F := Ideal) x0 x1 x2 (ix3 b s j)) (zat x0 x1 x2 b s j) := by
  have hn := norm_at x0 x1 x2 b s
  unfold zat zrow val_main_v15 val_main_v14
  generalize val_main_v13 (F := Ideal) x0 x1 = N at hn ⊢
  pointwise [hn]

/-- The queries' columns by heads. -/
theorem q_cols (x0 : FVec Ideal S4x8192x1024 .f32) (x1 : FVec Ideal S1x1024 .f32) (x2 : FVec Ideal S1x1024x2560 .f32) (b : Fin 4) (s : Fin 8192) (h : Fin 8) (l : Fin 64) :
    @Eq EReal (val_main_v21 (F := Ideal) x0 x1 x2 (ix4 b s h l)) (zat x0 x1 x2 b s ⟨64 * h.val + l.val, by omega⟩) := by
  rw [← z_at]
  unfold val_main_v21 val_main_v16
  generalize val_main_v15 (F := Ideal) x0 x1 x2 = z
  pointwise
  blk_ext

/-- The queries' normed heads. -/
theorem q_heads (x0 : FVec Ideal S4x8192x1024 .f32) (x1 : FVec Ideal S1x1024 .f32) (x2 : FVec Ideal S1x1024x2560 .f32) (x3 : FVec Ideal S1x64 .f32) (b : Fin 4) (s : Fin 8192) (h : Fin 8) (l : Fin 64) :
    @Eq EReal (val_main_v35 (F := Ideal) x0 x1 x2 x3 (ix4 b s h l))
      (headNorm (fun c => zat x0 x1 x2 b s ⟨c.val, by omega⟩) (fun k => x3 (ix2 0 k)) ⟨64 * h.val + l.val, by omega⟩) := by
  have hc := q_cols x0 x1 x2 b s h
  unfold val_main_v35 val_main_v34 val_main_v33 val_main_v22 val_main_v32 val_main_v31 val_main_v30 val_main_v29 val_main_v27 val_main_v25 val_main_v24 val_main_v23 val_main_v26 val_main_v28 val_main_cst_2 val_main_cst_3 val_main_cst_4
  generalize val_main_v21 (F := Ideal) x0 x1 x2 = z at hc ⊢
  generalize zat x0 x1 x2 b s = t at hc ⊢
  have e0 : (64 * h.val + l.val) / 64 = h.val := by omega
  have e1 : (64 * h.val + l.val) % 64 = l.val := by omega
  unfold headNorm
  simp only [e0, e1]
  pointwise [hc]
  rfl

/-- The keys' columns by heads. -/
theorem k_cols (x0 : FVec Ideal S4x8192x1024 .f32) (x1 : FVec Ideal S1x1024 .f32) (x2 : FVec Ideal S1x1024x2560 .f32) (b : Fin 4) (s : Fin 8192) (h : Fin 8) (l : Fin 64) :
    @Eq EReal (val_main_v38 (F := Ideal) x0 x1 x2 (ix4 b s h l)) (zat x0 x1 x2 b s ⟨512 + (64 * h.val + l.val), by omega⟩) := by
  rw [← z_at]
  unfold val_main_v38 val_main_v17
  generalize val_main_v15 (F := Ideal) x0 x1 x2 = z
  pointwise
  blk_ext

/-- The keys' normed heads. -/
theorem k_heads (x0 : FVec Ideal S4x8192x1024 .f32) (x1 : FVec Ideal S1x1024 .f32) (x2 : FVec Ideal S1x1024x2560 .f32) (x4 : FVec Ideal S1x64 .f32) (b : Fin 4) (s : Fin 8192) (h : Fin 8) (l : Fin 64) :
    @Eq EReal (val_main_v52 (F := Ideal) x0 x1 x2 x4 (ix4 b s h l))
      (headNorm (fun c => zat x0 x1 x2 b s ⟨512 + c.val, by omega⟩) (fun k => x4 (ix2 0 k)) ⟨64 * h.val + l.val, by omega⟩) := by
  have hc := k_cols x0 x1 x2 b s h
  unfold val_main_v52 val_main_v51 val_main_v50 val_main_v39 val_main_v49 val_main_v48 val_main_v47 val_main_v46 val_main_v44 val_main_v42 val_main_v41 val_main_v40 val_main_v43 val_main_v45 val_main_cst_6 val_main_cst_7 val_main_cst_8
  generalize val_main_v38 (F := Ideal) x0 x1 x2 = z at hc ⊢
  generalize zat x0 x1 x2 b s = t at hc ⊢
  have e0 : (64 * h.val + l.val) / 64 = h.val := by omega
  have e1 : (64 * h.val + l.val) % 64 = l.val := by omega
  unfold headNorm
  simp only [e0, e1]
  pointwise [hc]
  rfl

/-- The queries as one array of rows. -/
theorem q_at (x0 : FVec Ideal S4x8192x1024 .f32) (x1 : FVec Ideal S1x1024 .f32) (x2 : FVec Ideal S1x1024x2560 .f32) (x3 : FVec Ideal S1x64 .f32) (i : Fin 32768) (c : Fin 512) :
    @Eq EReal (val_main_v54 (F := Ideal) x0 x1 x2 x3 (ix2 i c)) (qAt (zat x0 x1 x2 ⟨i.val / 8192, by omega⟩ ⟨i.val % 8192, by omega⟩) (fun k => x3 (ix2 0 k)) c) := by
  have hh := q_heads x0 x1 x2 x3 ⟨i.val / 8192, by omega⟩ ⟨i.val % 8192, by omega⟩ ⟨c.val / 64, by omega⟩ ⟨c.val % 64, by omega⟩
  have e : (⟨64 * (c.val / 64) + c.val % 64, by omega⟩ : Fin 512) = c := Fin.ext (by dsimp only; omega)
  dsimp only at hh
  rw [e] at hh
  unfold qAt
  refine Eq.trans ?_ (congrArg (fun q : EReal => q * Ideal.ofBits .f32 0x3E000000#32) hh)
  unfold val_main_v54 val_main_v53 val_main_v37 val_main_v36 val_main_cst_5
  generalize val_main_v35 (F := Ideal) x0 x1 x2 x3 = z
  pointwise
  blk_ext

/-- The keys as one array of rows. -/
theorem k_at (x0 : FVec Ideal S4x8192x1024 .f32) (x1 : FVec Ideal S1x1024 .f32) (x2 : FVec Ideal S1x1024x2560 .f32) (x4 : FVec Ideal S1x64 .f32) (i : Fin 32768) (c : Fin 512) :
    @Eq EReal (val_main_v55 (F := Ideal) x0 x1 x2 x4 (ix2 i c)) (kAt (zat x0 x1 x2 ⟨i.val / 8192, by omega⟩ ⟨i.val % 8192, by omega⟩) (fun k => x4 (ix2 0 k)) c) := by
  have hh := k_heads x0 x1 x2 x4 ⟨i.val / 8192, by omega⟩ ⟨i.val % 8192, by omega⟩ ⟨c.val / 64, by omega⟩ ⟨c.val % 64, by omega⟩
  have e : (⟨64 * (c.val / 64) + c.val % 64, by omega⟩ : Fin 512) = c := Fin.ext (by dsimp only; omega)
  dsimp only at hh
  rw [e] at hh
  unfold kAt
  refine Eq.trans ?_ hh
  unfold val_main_v55
  generalize val_main_v52 (F := Ideal) x0 x1 x2 x4 = z
  pointwise
  blk_ext

/-- The values as one array of rows. -/
theorem v_at (x0 : FVec Ideal S4x8192x1024 .f32) (x1 : FVec Ideal S1x1024 .f32) (x2 : FVec Ideal S1x1024x2560 .f32) (i : Fin 32768) (c : Fin 512) :
    @Eq EReal (val_main_v56 (F := Ideal) x0 x1 x2 (ix2 i c)) (vAt (zat x0 x1 x2 ⟨i.val / 8192, by omega⟩ ⟨i.val % 8192, by omega⟩) c) := by
  unfold vAt
  rw [← z_at]
  unfold val_main_v56 val_main_v18
  generalize val_main_v15 (F := Ideal) x0 x1 x2 = z
  pointwise
  blk_ext

/-- The gated values as one array of rows. -/
theorem glu_at (x0 : FVec Ideal S4x8192x1024 .f32) (x1 : FVec Ideal S1x1024 .f32) (x2 : FVec Ideal S1x1024x2560 .f32) (i : Fin 32768) (c : Fin 512) :
    @Eq EReal (val_main_v64 (F := Ideal) x0 x1 x2 (ix2 i c)) (gluAt (zat x0 x1 x2 ⟨i.val / 8192, by omega⟩ ⟨i.val % 8192, by omega⟩) c) := by
  unfold gluAt Ideal.logistic
  rw [← z_at, ← z_at]
  unfold val_main_v64 val_main_v63 val_main_v62 val_main_v61 val_main_v60 val_main_v59 val_main_v58 val_main_v57 val_main_v19 val_main_v20 val_main_cst_9 val_main_cst_10
  generalize val_main_v15 (F := Ideal) x0 x1 x2 = z
  pointwise
  blk_ext

end Cert.Reference2Ideal.ProjRef

end
-- ==== Proof.ProjPre.lean ====
module

public import proofs.«01_k».proof.Proof.Pre
public import proofs.«01_k».proof.Proof.Proj
public import proofs.«01_k».proof.Proof.Gen.Pre_finite2
public import Idealize.ShloMosaic.Lib.ReduceAll
public import Idealize.ShloMosaic.Lib.Pointwise
public import Idealize.ShloMosaic.Lib.Pipeline.ValueKit

@[expose] public section

set_option maxRecDepth 16384

noncomputable section

/-! The projections' precondition read back: norm gains and the input weights of queries and keys are real numbers. -/

namespace Cert.Pre_finite2.Finite

open Cert.Pre_finite2 Cert.Pre_finite2.Gen Cert.Proj
open Idealize.ShloMosaic Idealize.ShloMosaic.TcCoe Idealize.SL.Sem

instance : Subsingleton S_.Idx := ⟨fun a b => funext fun k => k.elim0⟩

/-- One comparison of the precondition. -/
theorem re_of_bit (x : Ideal .f32) (h : FloatOps.cmpf .olt (FloatOps.hostAbsf x) (FloatOps.ofBits (F := Ideal) .f32 0x7F800000#32) = 1#1) : Re x :=
  Re.of_ne (Cert.Pre_finite.Finite.real_of_bit x h)

/-- The precondition makes every norm gain and every input weight of the queries and keys a real number. -/
theorem finite_of (x0 : FVec Ideal S4x8192x1024 .f32) (x1 : FVec Ideal S1x1024 .f32) (x2 : FVec Ideal S1x1024x2560 .f32) (x3 x4 : FVec Ideal S1x64 .f32)
    (h : fn (F := Ideal) x0 x1 x2 x3 x4 = fun _ => 1#1) : (∀ i, Re (x1 i)) ∧ ∀ (k : Fin 1024) (j : Fin 2560), j.val < 1024 → Re (x2 (ix3 0 k j)) := by
  have h := congrFun h ix0
  unfold fn at h
  obtain ⟨h1, h2⟩ := IntOp.andi_eq_one.1 h
  refine ⟨fun i => re_of_bit _ (Host.reduce_andi_all _ _ _ _ _ h1 i), fun k j hj => ?_⟩
  have hw := re_of_bit _ (Host.reduce_andi_all _ _ _ _ _ h2 (ix3 0 k ⟨j.val, hj⟩))
  refine Eq.mp (congrArg Re ?_) hw
  pointwise
  blk_ext

end Cert.Pre_finite2.Finite

end
-- ==== Proof.ProjClaims.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel2Ideal.Value
public import proofs.«01_k».proof.Proof.Gen.Reference2Ideal.Read
public import proofs.«01_k».proof.Proof.ProjValue
public import proofs.«01_k».proof.Proof.ProjRef
public import proofs.«01_k».proof.Proof.ProjPre
public import Idealize.ShloMosaic.Lib.Quiescent
public import Idealize.ShloMosaic.Adequacy
public import Idealize.ShloMosaic.Init

@[expose] public section

noncomputable section

/-! The claims about the prompt's projections: queries, keys, values and gated values. -/

namespace Cert.ProjClaims

open Idealize.ShloMosaic Idealize.SL.Sem

/-- The kernel runs and leaves its arguments. -/
theorem frame_p : Cert.quiescent_Kernel2 := fun m ρ _ => Cert.Kernel2.Gen.frame m ρ

/-- The idealized kernel runs and leaves its arguments. -/
theorem frame_pi : Cert.quiescent_Kernel2Ideal := fun m ρ _ => Cert.Kernel2Ideal.Gen.frame m ρ

/-- So it does from the arguments of the precondition. -/
theorem frame_pi_pre : Cert.quiescent_Kernel2Ideal_pre_finite2 := fun m ρ _ => Cert.Kernel2Ideal.Gen.frame m ρ

/-- The reference runs and leaves its arguments. -/
theorem frame_ri : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- So it does from the arguments of the precondition. -/
theorem frame_ri_pre : Cert.quiescent_Reference2Ideal_pre_finite2 := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- Nothing of the kernel is rewritten on the way to its idealized form. -/
theorem preserves : Cert.preserves_Kernel2_Kernel2Ideal := trivial

/-- From norm gains and input weights of queries and keys that are real numbers, kernel and reference compute the same queries,
    keys, values and gated values. -/
theorem algebraic : Cert.algebraic_Kernel2Ideal_Reference2Ideal_pre_finite2 := by
  intro m g m' g' hpre hagree
  refine ⟨fun c => Cert.Kernel2Ideal.ProjValue.qArr (m (c.tc.loc Cert.Kernel2Ideal.main_arg0)) (m (c.tc.loc Cert.Kernel2Ideal.main_arg1)) (m (c.tc.loc Cert.Kernel2Ideal.main_arg2)) (m (c.tc.loc Cert.Kernel2Ideal.main_arg3)),
    fun c => Cert.Kernel2Ideal.ProjValue.kArr (m (c.tc.loc Cert.Kernel2Ideal.main_arg0)) (m (c.tc.loc Cert.Kernel2Ideal.main_arg1)) (m (c.tc.loc Cert.Kernel2Ideal.main_arg2)) (m (c.tc.loc Cert.Kernel2Ideal.main_arg4)),
    fun c => Cert.Kernel2Ideal.ProjValue.vArr (m (c.tc.loc Cert.Kernel2Ideal.main_arg0)) (m (c.tc.loc Cert.Kernel2Ideal.main_arg1)) (m (c.tc.loc Cert.Kernel2Ideal.main_arg2)),
    fun c => Cert.Kernel2Ideal.ProjValue.gluArr (m (c.tc.loc Cert.Kernel2Ideal.main_arg0)) (m (c.tc.loc Cert.Kernel2Ideal.main_arg1)) (m (c.tc.loc Cert.Kernel2Ideal.main_arg2)), ?_, ?_⟩
  · refine (θ_run _ _ _).mono (fun r h c => ?_) (Cert.Kernel2Ideal.Value.run_blocks m g)
    obtain ⟨f1, f2⟩ := Cert.Pre_finite2.Finite.finite_of _ _ _ _ _ (hpre c)
    exact ⟨(h c).1.trans (Cert.Kernel2Ideal.ProjValue.q_final m c f1 f2), (h c).2.1.trans (Cert.Kernel2Ideal.ProjValue.k_final m c f1 f2),
      (h c).2.2.1.trans (Cert.Kernel2Ideal.ProjValue.v_final m c), (h c).2.2.2.1.trans (Cert.Kernel2Ideal.ProjValue.glu_final m c), (h c).2.2.2.2⟩
  · refine (θ_run _ _ _).mono (fun r h c => ?_) (Cert.Reference2Ideal.Value.run m' g')
    obtain ⟨a0, a1, a2, a3, a4⟩ := hagree c
    refine ⟨?_, ?_, ?_, ?_, (h c).2.2.2.2⟩
    · refine (h c).1.trans ((Cert.Reference2Ideal.Read.val_main_v54_eq _ _).trans ?_)
      refine Eq.trans (b := Cert.Reference2Ideal.Read.val_main_v54 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3))) rfl ?_
      rw [a0, a1, a2, a3]
      refine funext fun y => ?_
      rw [eq_ix2 y]
      exact Cert.Reference2Ideal.ProjRef.q_at _ _ _ _ (y 0) (y 1)
    · refine (h c).2.1.trans ((Cert.Reference2Ideal.Read.val_main_v55_eq _ _ _ _).trans ?_)
      refine Eq.trans (b := Cert.Reference2Ideal.Read.val_main_v55 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg4))) rfl ?_
      rw [a0, a1, a2, a4]
      refine funext fun y => ?_
      rw [eq_ix2 y]
      exact Cert.Reference2Ideal.ProjRef.k_at _ _ _ _ (y 0) (y 1)
    · refine (h c).2.2.1.trans ((Cert.Reference2Ideal.Read.val_main_v56_eq _ _ _).trans ?_)
      refine Eq.trans (b := Cert.Reference2Ideal.Read.val_main_v56 (F := Ideal) (m' (c.tc.loc Cert.Reference2Ideal.main_arg0)) (m' (c.tc.loc Cert.Reference2Ideal.main_arg1)) (m' (c.tc.loc Cert.Reference2Ideal.main_arg2))) rfl ?_
      rw [a0, a1, a2]
      refine funext fun y => ?_
      rw [eq_ix2 y]
      exact Cert.Reference2Ideal.ProjRef.v_at _ _ _ (y 0) (y 1)
    · refine (h c).2.2.2.1.trans ((Cert.Reference2Ideal.Read.val_main_v64_eq _ _ _).trans ?_)
      refine Eq.trans (b := Cert.Reference2Ideal.Read.val_main_v64 (F := Ideal) (m' (c.tc.loc Cert.Reference2Ideal.main_arg0)) (m' (c.tc.loc Cert.Reference2Ideal.main_arg1)) (m' (c.tc.loc Cert.Reference2Ideal.main_arg2))) rfl ?_
      rw [a0, a1, a2]
      refine funext fun y => ?_
      rw [eq_ix2 y]
      exact Cert.Reference2Ideal.ProjRef.glu_at _ _ _ (y 0) (y 1)

end Cert.ProjClaims

end
-- ==== Proof.TailPay.lean ====
module

public import proofs.«01_k».proof.Proof.Gen.Kernel3Ideal.Skeleton
public import proofs.«01_k».proof.Proof.Tail
public import Idealize.ShloMosaic.Lib.Pointwise

@[expose] public section

set_option maxRecDepth 16384

noncomputable section

/-! What the second half's body computes from its loaded blocks, read at one row. -/

namespace Cert.Kernel3Ideal.TailPay

open Cert.Kernel3Ideal Cert.Kernel3Ideal.Gen Cert.Tail Idealize.ShloMosaic Idealize.ShloMosaic.TcCoe Idealize.SL.Sem

/-- The projection of two rows side by side is the sum of the two halves' projections. -/
theorem hid_halves (x : Fin 1024 → EReal) (a v : Fin 512 → EReal) (W : Fin 1024 → Fin 1024 → EReal) (d : Fin 1024) :
    hid x (cat a v) W d = x d + (∑ k : Fin 512, a k * W ⟨k.val, by omega⟩ d) + ∑ k : Fin 512, v k * W ⟨512 + k.val, by omega⟩ d := by
  unfold hid
  rw [Fin.sum_univ_add (a := 512) (b := 512), ← add_assoc]
  refine congrArg₂ _ (congrArg₂ _ rfl (Finset.sum_congr rfl fun k _ => ?_)) (Finset.sum_congr rfl fun k _ => ?_)
  · unfold cat; rw [dif_pos (show (Fin.castAdd 512 k).val < 512 from k.isLt)]; rfl
  · unfold cat; rw [dif_neg (show ¬ (Fin.natAdd 512 k).val < 512 by simp)]
    refine congrArg₂ _ (congrArg v (Fin.ext ?_)) rfl
    simp

set_option maxHeartbeats 1600000 in
/-- The residual plus the projection, from the convolved row. -/
theorem hid_val (v237 v240 : FVec Ideal S512x512 .f32) (v258 v262 : FVec Ideal S1x512 .f32) (v269 : FVec Ideal S512x1024 .f32)
    (v271 : FVec Ideal S512x512 .bf16) (v273 v277 : FVec Ideal S512x1024 .bf16) (p : Fin 512)
    (x : Fin 1024 → EReal) (a y lg lb : Fin 512 → EReal) (W : Fin 1024 → Fin 1024 → EReal)
    (hy : ∀ c, @Eq EReal (addf v237 v240 (ix2 p c)) (y c)) (hlg : ∀ c, @Eq EReal (v258 (ix2 0 c)) (lg c)) (hlb : ∀ c, @Eq EReal (v262 (ix2 0 c)) (lb c))
    (hx : ∀ d, @Eq EReal (v269 (ix2 p d)) (x d)) (ha : ∀ c, @Eq EReal (v271 (ix2 p c)) (a c))
    (hW0 : ∀ (k : Fin 512) d, @Eq EReal (v273 (ix2 k d)) (W ⟨k.val, by omega⟩ d)) (hW1 : ∀ (k : Fin 512) d, @Eq EReal (v277 (ix2 k d)) (W ⟨512 + k.val, by omega⟩ d))
    (d : Fin 1024) :
    @Eq EReal (k0_pay18 v237 v240 v258 v262 v269 v271 v273 v277 (ix2 p d)) (hid x (cat a fun c => silu (normed y lg lb c)) W d) := by
  rw [hid_halves]
  unfold k0_pay18
  generalize addf v237 v240 = Y at hy ⊢
  dsimp only
  pointwise [hy, hlg, hlb, hx, ha, hW0, hW1]
  rfl

set_option maxHeartbeats 1600000 in
/-- The normalised row that the feed-forward block reads. -/
theorem rms_val (v280 : FVec Ideal S512x1024 .f32) (v281 : FVec Ideal S1x1024 .f32) (p : Fin 512) (h g : Fin 1024 → EReal)
    (hh : ∀ d, @Eq EReal (v280 (ix2 p d)) (h d)) (hg : ∀ d, @Eq EReal (v281 (ix2 0 d)) (g d)) (d : Fin 1024) :
    @Eq EReal (k0_pay19 v280 v281 (ix2 p d)) (rms h g d) := by
  unfold k0_pay19
  pointwise [hh, hg]
  rfl

set_option maxHeartbeats 1600000 in
/-- The first 1024 units' part of the feed-forward block. -/
theorem part0_val (v280 : FVec Ideal S512x1024 .f32) (v281 : FVec Ideal S1x1024 .f32) (v296 v299 v306 : FVec Ideal S1024x1024 .bf16) (p : Fin 512)
    (n : Fin 1024 → EReal) (U : Fin 1024 → Fin 5632 → EReal) (D : Fin 2816 → Fin 1024 → EReal)
    (hn : ∀ k, @Eq EReal (k0_pay19 v280 v281 (ix2 p k)) (n k)) (hG : ∀ (k j : Fin 1024), @Eq EReal (v296 (ix2 k j)) (U k ⟨j.val, by omega⟩))
    (hU : ∀ (k j : Fin 1024), @Eq EReal (v299 (ix2 k j)) (U k ⟨2816 + j.val, by omega⟩))
    (hD : ∀ (j d : Fin 1024), @Eq EReal (v306 (ix2 j d)) (D ⟨j.val, by omega⟩ d)) (d : Fin 1024) :
    @Eq EReal (k0_pay20 v280 v281 v296 v299 v306 (ix2 p d)) (∑ j : Fin 1024, act n U ⟨j.val, by omega⟩ * D ⟨j.val, by omega⟩ d) := by
  unfold k0_pay20
  generalize k0_pay19 v280 v281 = N at hn ⊢
  pointwise [hn, hG, hU, hD]
  rfl

set_option maxHeartbeats 1600000 in
/-- The second 1024 units. -/
theorem act1_val (v280 : FVec Ideal S512x1024 .f32) (v281 : FVec Ideal S1x1024 .f32) (v309 v312 : FVec Ideal S1024x1024 .bf16) (p : Fin 512)
    (n : Fin 1024 → EReal) (U : Fin 1024 → Fin 5632 → EReal)
    (hn : ∀ k, @Eq EReal (k0_pay19 v280 v281 (ix2 p k)) (n k)) (hG : ∀ (k j : Fin 1024), @Eq EReal (v309 (ix2 k j)) (U k ⟨1024 + j.val, by omega⟩))
    (hU : ∀ (k j : Fin 1024), @Eq EReal (v312 (ix2 k j)) (U k ⟨2816 + (1024 + j.val), by omega⟩)) (j : Fin 1024) :
    @Eq EReal (k0_pay21 v280 v281 v309 v312 (ix2 p j)) (act n U ⟨1024 + j.val, by omega⟩) := by
  unfold k0_pay21
  generalize k0_pay19 v280 v281 = N at hn ⊢
  pointwise [hn, hG, hU]
  rfl

/-- The feed-forward sum over 2816 units is the sum of its three parts. -/
theorem ffn_parts (h g : Fin 1024 → EReal) (U : Fin 1024 → Fin 5632 → EReal) (D : Fin 2816 → Fin 1024 → EReal) (d : Fin 1024) :
    ffn h g U D d = h d + ((∑ j : Fin 1024, act (rms h g) U ⟨j.val, by omega⟩ * D ⟨j.val, by omega⟩ d)
      + (∑ j : Fin 1024, act (rms h g) U ⟨1024 + j.val, by omega⟩ * D ⟨1024 + j.val, by omega⟩ d)
      + ∑ j : Fin 768, act (rms h g) U ⟨2048 + j.val, by omega⟩ * D ⟨2048 + j.val, by omega⟩ d) := by
  unfold ffn
  generalize rms h g = n
  rw [Fin.sum_univ_add (a := 2048) (b := 768), Fin.sum_univ_add (a := 1024) (b := 1024)]
  rfl

set_option maxHeartbeats 1600000 in
/-- The residual plus the feed-forward block, from its first part and its second part's units. -/
theorem ffn_val (v280 : FVec Ideal S512x1024 .f32) (v295 : FVec Ideal S512x1024 .bf16) (v308 : FVec Ideal S512x1024 .f32) (v318 : FVec Ideal S512x1024 .bf16)
    (v319 : FVec Ideal S1024x1024 .bf16) (v323 v326 : FVec Ideal S1024x768 .bf16) (v333 : FVec Ideal S768x1024 .bf16) (p : Fin 512)
    (h g : Fin 1024 → EReal) (U : Fin 1024 → Fin 5632 → EReal) (D : Fin 2816 → Fin 1024 → EReal)
    (hh : ∀ k, @Eq EReal (v280 (ix2 p k)) (h k)) (hn : ∀ k, @Eq EReal (v295 (ix2 p k)) (rms h g k))
    (h0 : ∀ d, @Eq EReal (v308 (ix2 p d)) (∑ j : Fin 1024, act (rms h g) U ⟨j.val, by omega⟩ * D ⟨j.val, by omega⟩ d))
    (h1 : ∀ j : Fin 1024, @Eq EReal (v318 (ix2 p j)) (act (rms h g) U ⟨1024 + j.val, by omega⟩))
    (hD1 : ∀ (j d : Fin 1024), @Eq EReal (v319 (ix2 j d)) (D ⟨1024 + j.val, by omega⟩ d))
    (hG : ∀ (k : Fin 1024) (j : Fin 768), @Eq EReal (v323 (ix2 k j)) (U k ⟨2048 + j.val, by omega⟩))
    (hU : ∀ (k : Fin 1024) (j : Fin 768), @Eq EReal (v326 (ix2 k j)) (U k ⟨2816 + (2048 + j.val), by omega⟩))
    (hD : ∀ (j : Fin 768) (d : Fin 1024), @Eq EReal (v333 (ix2 j d)) (D ⟨2048 + j.val, by omega⟩ d)) (d : Fin 1024) :
    @Eq EReal (k0_pay22 v280 v295 v308 v318 v319 v323 v326 v333 (ix2 p d)) (ffn h g U D d) := by
  rw [ffn_parts]
  generalize rms h g = n at hn h0 h1 ⊢
  unfold k0_pay22
  pointwise [hh, hn, h0, h1, hD1, hG, hU, hD]
  rfl

set_option maxHeartbeats 1600000 in
/-- The gate of the embedding. -/
theorem gate_val (v280 : FVec Ideal S512x1024 .f32) (v295 : FVec Ideal S512x1024 .bf16) (v308 : FVec Ideal S512x1024 .f32) (v318 : FVec Ideal S512x1024 .bf16)
    (v319 : FVec Ideal S1024x1024 .bf16) (v323 v326 : FVec Ideal S1024x768 .bf16) (v333 : FVec Ideal S768x1024 .bf16) (v338 : FVec Ideal S1x1024 .f32)
    (v353 : FVec Ideal S1024x1024 .bf16) (p : Fin 512) (h g : Fin 1024 → EReal) (G : Fin 1024 → Fin 1024 → EReal)
    (hh : ∀ d, @Eq EReal (k0_pay22 v280 v295 v308 v318 v319 v323 v326 v333 (ix2 p d)) (h d)) (hg : ∀ d, @Eq EReal (v338 (ix2 0 d)) (g d))
    (hG : ∀ k d, @Eq EReal (v353 (ix2 k d)) (G k d)) (d : Fin 1024) :
    @Eq EReal (k0_pay23 v280 v295 v308 v318 v319 v323 v326 v333 v338 v353 (ix2 p d)) (Ideal.logistic (∑ k, rms h g k * G k d)) := by
  unfold k0_pay23
  generalize k0_pay22 v280 v295 v308 v318 v319 v323 v326 v333 = H at hh ⊢
  pointwise [hh, hg, hG]
  rfl

set_option maxHeartbeats 1600000 in
/-- What the body stores, from the residual, the gate and the embeddings. -/
theorem emb_val (v337 v356 : FVec Ideal S512x1024 .f32) (v357 : FVec Ideal S512x256 .f32) (v360 : FVec Ideal S256x1024 .bf16) (p : Fin 512)
    (h g : Fin 1024 → EReal) (G : Fin 1024 → Fin 1024 → EReal) (e : Fin 256 → EReal) (E : Fin 256 → Fin 1024 → EReal)
    (hh : ∀ d, @Eq EReal (v337 (ix2 p d)) (h d)) (hg : ∀ d, @Eq EReal (v356 (ix2 p d)) (Ideal.logistic (∑ k, rms h g k * G k d)))
    (he : ∀ k, @Eq EReal (v357 (ix2 p k)) (e k)) (hE : ∀ k d, @Eq EReal (v360 (ix2 k d)) (E k d)) (d : Fin 1024) :
    @Eq EReal (k0_pay1 v337 v356 (k0_pay24 v357) v360 (ix2 p d)) (emb h g G e E d) := by
  unfold emb
  generalize (fun d => Ideal.logistic (∑ k, rms h g k * G k d)) = q at hg ⊢
  unfold k0_pay1 k0_pay24
  pointwise [hh, hg, he, hE]

end Cert.Kernel3Ideal.TailPay
-- ==== Proof.TailConv.lean ====
module

public import proofs.«01_k».proof.Proof.Gen.Kernel3Ideal.Frame
public import proofs.«01_k».proof.Proof.TailPay
public import Idealize.ShloMosaic.Lib.Pipeline.ValueKit
public import Idealize.ShloMosaic.Lib.Pipeline.ReadBack

@[expose] public section

set_option maxRecDepth 16384

noncomputable section

/-! The convolution of one block: the scratch rows it reads, and the 31 taps it adds. -/

namespace Cert.Kernel3Ideal.TailConv

open Cert.Kernel3Ideal Cert.Kernel3Ideal.Gen Cert.Tail Idealize.ShloMosaic Idealize.ShloMosaic.TcCoe Idealize.SL.Sem

/-- The two stores into the scratch rows: the history first, then the block's rows behind it. -/
abbrev stores (i : grid0.Coords) (X2 : Vec Ideal S512x512 .f32) (X3 : Vec Ideal S1x32x512 .f32) : List (View.Piece (Elt Ideal) S1x544x512 .f32) :=
  [⟨Rect.unit ![0, 32, 0] ![1, 512, 512] inb_S1x544x512_S1x512x512_0_32_0, k0_pay3 X2⟩,
    ⟨Rect.unit ![0, 0, 0] ![1, 32, 512] inb_S1x544x512_S1x32x512_0_0_0, k0_pay2 i X3⟩]

/-- What the scratch holds at row `q`. -/
def kept (i : grid0.Coords) (X2 : Vec Ideal S512x512 .f32) (X3 : Vec Ideal S1x32x512 .f32) (q : Fin 544) (c : Fin 512) : EReal :=
  if h : q.val < 32 then k0_pay2 i X3 (ix3 0 ⟨q.val, h⟩ c) else X2 (ix2 ⟨q.val - 32, by omega⟩ c)

/-- A load of 512 rows from row `o` on reads the scratch there. -/
theorem load_at (i : grid0.Coords) (X2 : Vec Ideal S512x512 .f32) (X3 : Vec Ideal S1x32x512 .f32) (o : ℕ) (inb : ∀ a, (![0, o, 0] : Fin 3 → ℕ) a + (![1, 512, 512] : Fin 3 → ℕ) a ≤ S1x544x512.size a)
    (ho : o ≤ 32) (p c : Fin 512) :
    @Eq EReal ((View.whole cc0_scratch0).readCov (Val := Elt Ideal) (stores i X2 X3) (Rect.unit (s := S1x544x512) ![0, o, 0] ![1, 512, 512] inb).toLoadRect (ix3 0 p c))
      (kept i X2 X3 ⟨p.val + o, by omega⟩ c) := by
  rw [View.readCov_eq_canon']
  have hG := View.canon_append_of_piecesOf (Val := Elt Ideal) (e := .f32) (fun y : S1x544x512.Idx => (kept i X2 X3 (y 1) (y 2) : EReal)) [] (stores i X2 X3) ?_
    ((Rect.unit (s := S1x544x512) ![0, o, 0] ![1, 512, 512] inb).toLoadRect.idx (ix3 0 p c)) ?_
  · rw [List.append_nil] at hG
    refine hG.trans (congrArg₂ (kept i X2 X3) (Fin.ext ?_) (Fin.ext ?_))
    · exact (Rect.idx_unit_val _ _ inb _ 1).trans (Nat.add_comm _ _)
    · exact (Rect.idx_unit_val _ _ inb _ 2).trans (Nat.zero_add _)
  · refine ⟨fun x => ?_, fun x => ?_, trivial⟩
    · obtain ⟨a, q, k, rfl⟩ : ∃ (a : Fin 1) (q k : Fin 512), x = ix3 a q k := ⟨x 0, x 1, x 2, eq_ix3 x⟩
      obtain rfl : a = 0 := Subsingleton.elim _ _
      have e : kept i X2 X3 ⟨32 + q.val, by omega⟩ k = X2 (ix2 q k) := by
        unfold kept
        rw [dif_neg (by simp)]
        exact congrArg X2 (congrArg (fun r => ix2 r k) (Fin.ext (by simp)))
      refine Eq.trans ?_ (e.symm.trans (congrArg₂ (kept i X2 X3) (Fin.ext ?_) (Fin.ext ?_)))
      · show @Eq EReal (k0_pay3 X2 (ix3 0 q k)) _
        unfold k0_pay3
        pointwise
      · exact (Idealize.ShloMosaic.ValueKit.rect_emb_unit_val (s := S1x544x512) ![0, 32, 0] ![1, 512, 512] inb_S1x544x512_S1x512x512_0_32_0 (show (Rect.unit (s := S1x544x512) ![0, 32, 0] ![1, 512, 512] inb_S1x544x512_S1x512x512_0_32_0).shape.Idx from ix3 0 q k) 1).symm
      · exact ((Idealize.ShloMosaic.ValueKit.rect_emb_unit_val (s := S1x544x512) ![0, 32, 0] ![1, 512, 512] inb_S1x544x512_S1x512x512_0_32_0 (show (Rect.unit (s := S1x544x512) ![0, 32, 0] ![1, 512, 512] inb_S1x544x512_S1x512x512_0_32_0).shape.Idx from ix3 0 q k) 2).trans (Nat.zero_add _)).symm
    · obtain ⟨a, q, k, rfl⟩ : ∃ (a : Fin 1) (q : Fin 32) (k : Fin 512), x = ix3 a q k := ⟨x 0, x 1, x 2, eq_ix3 x⟩
      obtain rfl : a = 0 := Subsingleton.elim _ _
      have e : kept i X2 X3 ⟨q.val, by omega⟩ k = k0_pay2 i X3 (ix3 0 q k) := by
        unfold kept
        rw [dif_pos q.isLt]
      refine e.symm.trans (congrArg₂ (kept i X2 X3) (Fin.ext ?_) (Fin.ext ?_))
      · exact ((Idealize.ShloMosaic.ValueKit.rect_emb_unit_val (s := S1x544x512) ![0, 0, 0] ![1, 32, 512] inb_S1x544x512_S1x32x512_0_0_0 (show (Rect.unit (s := S1x544x512) ![0, 0, 0] ![1, 32, 512] inb_S1x544x512_S1x32x512_0_0_0).shape.Idx from ix3 0 q k) 1).trans (Nat.zero_add _)).symm
      · exact ((Idealize.ShloMosaic.ValueKit.rect_emb_unit_val (s := S1x544x512) ![0, 0, 0] ![1, 32, 512] inb_S1x544x512_S1x32x512_0_0_0 (show (Rect.unit (s := S1x544x512) ![0, 0, 0] ![1, 32, 512] inb_S1x544x512_S1x32x512_0_0_0).shape.Idx from ix3 0 q k) 2).trans (Nat.zero_add _)).symm
  · have h1 : ((Rect.unit (s := S1x544x512) ![0, o, 0] ![1, 512, 512] inb).toLoadRect.idx (ix3 0 p c) 1).val = o + p.val := Rect.idx_unit_val _ _ inb _ 1
    have h2 : ((Rect.unit (s := S1x544x512) ![0, o, 0] ![1, 512, 512] inb).toLoadRect.idx (ix3 0 p c) 2).val = 0 + c.val := Rect.idx_unit_val _ _ inb _ 2
    have h0 : ((Rect.unit (s := S1x544x512) ![0, o, 0] ![1, 512, 512] inb).toLoadRect.idx (ix3 0 p c) 0).val = 0 + 0 := Rect.idx_unit_val _ _ inb _ 0
    by_cases h : o + p.val < 32
    · refine ⟨⟨Rect.unit ![0, 0, 0] ![1, 32, 512] inb_S1x544x512_S1x32x512_0_0_0, k0_pay2 i X3⟩, List.mem_cons_of_mem _ (List.mem_singleton.mpr rfl), (Rect.mem_set_unit (inb := inb_S1x544x512_S1x32x512_0_0_0)).mpr fun a => ?_⟩
      fin_cases a
      · exact ⟨Nat.zero_le _, by simp⟩
      · exact ⟨Nat.zero_le _, by simpa [h1] using h⟩
      · exact ⟨Nat.zero_le _, by simpa [h2] using c.isLt⟩
    · refine ⟨⟨Rect.unit ![0, 32, 0] ![1, 512, 512] inb_S1x544x512_S1x512x512_0_32_0, k0_pay3 X2⟩, List.mem_cons_self, (Rect.mem_set_unit (inb := inb_S1x544x512_S1x512x512_0_32_0)).mpr fun a => ?_⟩
      fin_cases a
      · exact ⟨Nat.zero_le _, by simp⟩
      · exact ⟨h1.symm ▸ (by simpa using h), h1.symm ▸ (by simp; omega)⟩
      · exact ⟨Nat.zero_le _, by simpa [h2] using c.isLt⟩

/-- The bit that tells the first block of a sequence. -/
theorem first_bit : ∀ n : Fin 64, Scalar.cmpi .eq
    (Scalar.select (Scalar.andi (Scalar.xori (Scalar.cmpi .slt (Scalar.remsi (BitVec.ofNat 32 n.val) (Scalar.select (Scalar.cmpi .eq 16#32 0#32) 1#32 16#32)) 0#32)
        (Scalar.cmpi .slt (Scalar.select (Scalar.cmpi .eq 16#32 0#32) 1#32 16#32) 0#32))
        (Scalar.cmpi .ne (Scalar.remsi (BitVec.ofNat 32 n.val) (Scalar.select (Scalar.cmpi .eq 16#32 0#32) 1#32 16#32)) 0#32))
      (Scalar.addi (Scalar.remsi (BitVec.ofNat 32 n.val) (Scalar.select (Scalar.cmpi .eq 16#32 0#32) 1#32 16#32)) (Scalar.select (Scalar.cmpi .eq 16#32 0#32) 1#32 16#32))
      (Scalar.remsi (BitVec.ofNat 32 n.val) (Scalar.select (Scalar.cmpi .eq 16#32 0#32) 1#32 16#32))) 0#32
    = if n.val % 16 = 0 then 1#1 else 0#1 := by decide +kernel

/-- The history rows: those before the block, or zero in the first block of a sequence. -/
theorem hist_at (i : grid0.Coords) (n : Fin 64) (hn : (i 0).val = n.val) (X3 : Vec Ideal S1x32x512 .f32) (r : Fin 32) (c : Fin 512) :
    @Eq EReal (k0_pay2 i X3 (ix3 0 r c)) (if n.val % 16 = 0 then 0 else X3 (ix3 0 r c)) := by
  unfold k0_pay2
  dsimp only
  rw [hn, first_bit n]
  by_cases h : n.val % 16 = 0
  · rw [if_pos h, if_pos h]
    show @Eq EReal (shapeCast S1x32x512 (broadcast S32x512 (Scalar.ofBits (F := Ideal) .f32 0x00000000#32)) shapeCasts_S32x512_S1x32x512 (ix3 0 r c)) 0
    pointwise
  · rw [if_neg h, if_neg h]
    show @Eq EReal (shapeCast S1x32x512 (shapeCast S32x512 X3 shapeCasts_S1x32x512_S32x512) shapeCasts_S32x512_S1x32x512 (ix3 0 r c)) _
    pointwise

/-- What a load reads, `o = w + 2` rows on: tap `w` of the block's positions. -/
theorem tap_val (Gl : SG.Idx → EReal) (i : grid0.Coords) (n : Fin 64) (hn : (i 0).val = n.val) (X2 : Vec Ideal S512x512 .f32) (X3 : Vec Ideal S1x32x512 .f32)
    (h2 : ∀ (q c : Fin 512), @Eq EReal (X2 (ix2 q c)) (Gl (ix2 ⟨512 * n.val + q.val, by omega⟩ c)))
    (h3 : ∀ (r : Fin 32) (c : Fin 512), 0 < n.val → @Eq EReal (X3 (ix3 0 r c)) (Gl (ix2 ⟨512 * n.val + r.val - 32, by omega⟩ c)))
    (o : ℕ) (inb : ∀ a, (![0, o, 0] : Fin 3 → ℕ) a + (![1, 512, 512] : Fin 3 → ℕ) a ≤ S1x544x512.size a)
    (w : Fin 31) (ho : o = w.val + 2) (p c : Fin 512) :
    @Eq EReal ((View.whole cc0_scratch0).readCov (Val := Elt Ideal) (stores i X2 X3) (Rect.unit (s := S1x544x512) ![0, o, 0] ![1, 512, 512] inb).toLoadRect (ix3 0 p c))
      (tap Gl ⟨n.val / 16, by omega⟩ ⟨512 * (n.val % 16) + p.val, by omega⟩ w c) := by
  refine (load_at i X2 X3 o inb (by omega) p c).trans ?_
  unfold kept tap
  have hp := p.isLt
  have hnn := n.isLt
  by_cases h : p.val + o < 32
  · rw [dif_pos h, hist_at i n hn]
    by_cases h0 : n.val % 16 = 0
    · rw [if_pos h0, dif_neg (by dsimp only; omega)]
    · rw [if_neg h0, dif_pos (by dsimp only; omega), h3 _ _ (by omega)]
      refine congrArg Gl (congrArg (fun r => ix2 r c) (Fin.ext ?_))
      dsimp only
      omega
  · rw [dif_neg h, dif_pos (by dsimp only; omega), h2]
    refine congrArg Gl (congrArg (fun r => ix2 r c) (Fin.ext ?_))
    dsimp only
    omega

set_option maxHeartbeats 1600000 in
/-- The 31 taps and the bias, added as the body adds them. -/
theorem conv_val (L0 L1 L2 L3 L4 L5 L6 L7 L8 L9 L10 L11 L12 L13 L14 L15 L16 L17 L18 L19 L20 L21 L22 L23 L24 L25 L26 L27 L28 L29 L30 : Vec Ideal S1x512x512 .f32) (w0 w1 w2 w3 w4 w5 w6 w7 w8 w9 w10 w11 w12 w13 w14 w15 w16 w17 w18 w19 w20 w21 w22 w23 w24 w25 w26 w27 w28 w29 w30 : Vec Ideal S1x512 .f32) (cb : Vec Ideal S1x512 .f32) (p c : Fin 512) (T W : Fin 31 → EReal)
    (hL0 : @Eq EReal (L0 (ix3 0 p c)) (T 0)) (hL1 : @Eq EReal (L1 (ix3 0 p c)) (T 1)) (hL2 : @Eq EReal (L2 (ix3 0 p c)) (T 2)) (hL3 : @Eq EReal (L3 (ix3 0 p c)) (T 3)) (hL4 : @Eq EReal (L4 (ix3 0 p c)) (T 4)) (hL5 : @Eq EReal (L5 (ix3 0 p c)) (T 5)) (hL6 : @Eq EReal (L6 (ix3 0 p c)) (T 6)) (hL7 : @Eq EReal (L7 (ix3 0 p c)) (T 7)) (hL8 : @Eq EReal (L8 (ix3 0 p c)) (T 8)) (hL9 : @Eq EReal (L9 (ix3 0 p c)) (T 9)) (hL10 : @Eq EReal (L10 (ix3 0 p c)) (T 10)) (hL11 : @Eq EReal (L11 (ix3 0 p c)) (T 11)) (hL12 : @Eq EReal (L12 (ix3 0 p c)) (T 12)) (hL13 : @Eq EReal (L13 (ix3 0 p c)) (T 13)) (hL14 : @Eq EReal (L14 (ix3 0 p c)) (T 14)) (hL15 : @Eq EReal (L15 (ix3 0 p c)) (T 15)) (hL16 : @Eq EReal (L16 (ix3 0 p c)) (T 16)) (hL17 : @Eq EReal (L17 (ix3 0 p c)) (T 17)) (hL18 : @Eq EReal (L18 (ix3 0 p c)) (T 18)) (hL19 : @Eq EReal (L19 (ix3 0 p c)) (T 19)) (hL20 : @Eq EReal (L20 (ix3 0 p c)) (T 20)) (hL21 : @Eq EReal (L21 (ix3 0 p c)) (T 21)) (hL22 : @Eq EReal (L22 (ix3 0 p c)) (T 22)) (hL23 : @Eq EReal (L23 (ix3 0 p c)) (T 23)) (hL24 : @Eq EReal (L24 (ix3 0 p c)) (T 24)) (hL25 : @Eq EReal (L25 (ix3 0 p c)) (T 25)) (hL26 : @Eq EReal (L26 (ix3 0 p c)) (T 26)) (hL27 : @Eq EReal (L27 (ix3 0 p c)) (T 27)) (hL28 : @Eq EReal (L28 (ix3 0 p c)) (T 28)) (hL29 : @Eq EReal (L29 (ix3 0 p c)) (T 29)) (hL30 : @Eq EReal (L30 (ix3 0 p c)) (T 30))
    (hw0 : @Eq EReal (w0 (ix2 0 c)) (W 0)) (hw1 : @Eq EReal (w1 (ix2 0 c)) (W 1)) (hw2 : @Eq EReal (w2 (ix2 0 c)) (W 2)) (hw3 : @Eq EReal (w3 (ix2 0 c)) (W 3)) (hw4 : @Eq EReal (w4 (ix2 0 c)) (W 4)) (hw5 : @Eq EReal (w5 (ix2 0 c)) (W 5)) (hw6 : @Eq EReal (w6 (ix2 0 c)) (W 6)) (hw7 : @Eq EReal (w7 (ix2 0 c)) (W 7)) (hw8 : @Eq EReal (w8 (ix2 0 c)) (W 8)) (hw9 : @Eq EReal (w9 (ix2 0 c)) (W 9)) (hw10 : @Eq EReal (w10 (ix2 0 c)) (W 10)) (hw11 : @Eq EReal (w11 (ix2 0 c)) (W 11)) (hw12 : @Eq EReal (w12 (ix2 0 c)) (W 12)) (hw13 : @Eq EReal (w13 (ix2 0 c)) (W 13)) (hw14 : @Eq EReal (w14 (ix2 0 c)) (W 14)) (hw15 : @Eq EReal (w15 (ix2 0 c)) (W 15)) (hw16 : @Eq EReal (w16 (ix2 0 c)) (W 16)) (hw17 : @Eq EReal (w17 (ix2 0 c)) (W 17)) (hw18 : @Eq EReal (w18 (ix2 0 c)) (W 18)) (hw19 : @Eq EReal (w19 (ix2 0 c)) (W 19)) (hw20 : @Eq EReal (w20 (ix2 0 c)) (W 20)) (hw21 : @Eq EReal (w21 (ix2 0 c)) (W 21)) (hw22 : @Eq EReal (w22 (ix2 0 c)) (W 22)) (hw23 : @Eq EReal (w23 (ix2 0 c)) (W 23)) (hw24 : @Eq EReal (w24 (ix2 0 c)) (W 24)) (hw25 : @Eq EReal (w25 (ix2 0 c)) (W 25)) (hw26 : @Eq EReal (w26 (ix2 0 c)) (W 26)) (hw27 : @Eq EReal (w27 (ix2 0 c)) (W 27)) (hw28 : @Eq EReal (w28 (ix2 0 c)) (W 28)) (hw29 : @Eq EReal (w29 (ix2 0 c)) (W 29)) (hw30 : @Eq EReal (w30 (ix2 0 c)) (W 30)) :
    @Eq EReal (addf (k0_pay16 (k0_pay14 (k0_pay12 (k0_pay10 (k0_pay8 (k0_pay6 (k0_pay4 L0 w0) (k0_pay5 L1) w1 L2 w2 L3 w3 L4 w4 L5 w5) (k0_pay7 L6) w6 L7 w7 L8 w8 L9 w9 L10 w10) (k0_pay9 L11) w11 L12 w12 L13 w13 L14 w14 L15 w15) (k0_pay11 L16) w16 L17 w17 L18 w18 L19 w19 L20 w20) (k0_pay13 L21) w21 L22 w22 L23 w23 L24 w24 L25 w25) (k0_pay15 L26) w26 L27 w27 L28 w28 L29 w29 L30 w30) (k0_pay17 cb) (ix2 p c)) (conv (fun w => T w * W w) + cb (ix2 0 c)) := by
  unfold conv
  pointwise [k0_pay4, k0_pay5, k0_pay6, k0_pay7, k0_pay8, k0_pay9, k0_pay10, k0_pay11, k0_pay12, k0_pay13, k0_pay14, k0_pay15, k0_pay16, k0_pay17, hL0, hL1, hL2, hL3, hL4, hL5, hL6, hL7, hL8, hL9, hL10, hL11, hL12, hL13, hL14, hL15, hL16, hL17, hL18, hL19, hL20, hL21, hL22, hL23, hL24, hL25, hL26, hL27, hL28, hL29, hL30, hw0, hw1, hw2, hw3, hw4, hw5, hw6, hw7, hw8, hw9, hw10, hw11, hw12, hw13, hw14, hw15, hw16, hw17, hw18, hw19, hw20, hw21, hw22, hw23, hw24, hw25, hw26, hw27, hw28, hw29, hw30]

end Cert.Kernel3Ideal.TailConv
-- ==== Proof.TailWin.lean ====
module

public import proofs.«01_k».proof.Proof.Gen.Kernel3Ideal.Frame
public import proofs.«01_k».proof.Proof.Tail
public import Idealize.ShloMosaic.Lib.Pointwise
public import Idealize.ShloMosaic.Lib.Pipeline.ValueKit

@[expose] public section

set_option maxRecDepth 16384

noncomputable section

/-! The second half's windows, read against the program's arguments. -/

namespace Cert.Kernel3Ideal.TailWin

open Cert.Kernel3Ideal Cert.Kernel3Ideal.Gen Cert.Tail Idealize.ShloMosaic Idealize.ShloMosaic.TcCoe Idealize.SL.Sem

variable (m : (ℓ : Loc nD τ sig) → Buf (Elt Ideal) ℓ)

/-- Every window's block index at every grid point. -/
theorem idx : ∀ t : Fin cfg0.N,
    win0_0.index t = ![t.val, 0] ∧ win0_1.index t = ![t.val, 0] ∧ win0_2.index t = ![t.val, 0] ∧ win0_3.index t = ![16 * t.val - 1, 0, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] ∧ win0_16.index t = ![t.val, 0]
    ∧ (grid0.coords t 0).val = t.val ∧ t.val < 64 :=
  (by decide +kernel : ∀ t : Fin grid0.N, _)

theorem lt64 (t : Fin cfg0.N) : t.val < 64 := (idx t).2.2.2.2.2.2.2.2.2.2.2.2.2.2.2.2.2.2

/-- The residual stream as rows, cast. -/
theorem cast0 (x : FVec Ideal S4x8192x1024 .f32) (i : Fin 32768) (k : Fin 1024) : @Eq EReal ((shapeCast S32768x1024 x shapeCasts_S4x8192x1024_S32768x1024) (ix2 i k)) (x (ix3 ⟨i.val / 8192, by omega⟩ ⟨i.val % 8192, by omega⟩ k)) := by
  pointwise

set_option maxHeartbeats 1600000 in
/-- The residual stream as rows. -/
theorem host0 (c : Dev nD) (i : Fin 32768) (k : Fin 1024) : @Eq EReal (V m c main_v21 (ix2 i k)) (m ((c.tc : Thread nD τ).loc main_arg0) (ix3 ⟨i.val / 8192, by omega⟩ ⟨i.val % 8192, by omega⟩ k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast0 (m ((c.tc : Thread nD τ).loc main_arg0)) i k

/-- The attention as rows, cast. -/
theorem cast1 (x : FVec Ideal S4x8192x512 .bf16) (i : Fin 32768) (k : Fin 512) : @Eq EReal ((shapeCast S32768x512 x shapeCasts_S4x8192x512_S32768x512) (ix2 i k)) (x (ix3 ⟨i.val / 8192, by omega⟩ ⟨i.val % 8192, by omega⟩ k)) := by
  pointwise

set_option maxHeartbeats 1600000 in
/-- The attention as rows. -/
theorem host1 (c : Dev nD) (i : Fin 32768) (k : Fin 512) : @Eq EReal (V m c main_v22 (ix2 i k)) (m ((c.tc : Thread nD τ).loc main_arg1) (ix3 ⟨i.val / 8192, by omega⟩ ⟨i.val % 8192, by omega⟩ k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast1 (m ((c.tc : Thread nD τ).loc main_arg1)) i k

/-- The gated values in groups of 32 rows, cast. -/
theorem cast3 (x : FVec Ideal S32768x512 .f32) (g : Fin 1024) (r : Fin 32) (k : Fin 512) : @Eq EReal ((shapeCast S1024x32x512 x shapeCasts_S32768x512_S1024x32x512) (ix3 g r k)) (x (ix2 ⟨32 * g.val + r.val, by omega⟩ k)) := by
  refine Eq.trans (b := x (ix2 ⟨g.val * 32 + r.val, by omega⟩ k)) (by pointwise) ?_
  exact congrArg (fun z => x (ix2 z k)) (Fin.ext (by dsimp only; omega))

set_option maxHeartbeats 1600000 in
/-- The gated values in groups of 32 rows. -/
theorem host3 (c : Dev nD) (g : Fin 1024) (r : Fin 32) (k : Fin 512) : @Eq EReal (V m c main_v23 (ix3 g r k)) (m ((c.tc : Thread nD τ).loc main_arg2) (ix2 ⟨32 * g.val + r.val, by omega⟩ k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast3 (m ((c.tc : Thread nD τ).loc main_arg2)) g r k

/-- The embeddings as rows, cast. -/
theorem cast4 (x : FVec Ideal S1x4x8192x256 .f32) (i : Fin 32768) (k : Fin 256) : @Eq EReal ((shapeCast S32768x256 (shapeCast S4x8192x256 x shapeCasts_S1x4x8192x256_S4x8192x256) shapeCasts_S4x8192x256_S32768x256) (ix2 i k)) (x (ix4 0 ⟨i.val / 8192, by omega⟩ ⟨i.val % 8192, by omega⟩ k)) := by
  pointwise

set_option maxHeartbeats 1600000 in
/-- The embeddings as rows. -/
theorem host4 (c : Dev nD) (i : Fin 32768) (k : Fin 256) : @Eq EReal (V m c main_v25 (ix2 i k)) (m ((c.tc : Thread nD τ).loc main_arg3) (ix4 0 ⟨i.val / 8192, by omega⟩ ⟨i.val % 8192, by omega⟩ k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast4 (m ((c.tc : Thread nD τ).loc main_arg3)) i k

/-- The taps' weights, cast. -/
theorem cast5 (x : FVec Ideal S1x31x512 .f32) (i : Fin 31) (k : Fin 512) : @Eq EReal ((shapeCast S31x512 x shapeCasts_S1x31x512_S31x512) (ix2 i k)) (x (ix3 0 i k)) := by
  pointwise

set_option maxHeartbeats 1600000 in
/-- The taps' weights. -/
theorem host5 (c : Dev nD) (i : Fin 31) (k : Fin 512) : @Eq EReal (V m c main_v0 (ix2 i k)) (m ((c.tc : Thread nD τ).loc main_arg4) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast5 (m ((c.tc : Thread nD τ).loc main_arg4)) i k

/-- The convolution's bias, cast. -/
theorem cast6 (x : FVec Ideal S1x512 .f32) (k : Fin 512) : @Eq EReal ((shapeCast S1x512 (shapeCast S512 x shapeCasts_S1x512_S512) shapeCasts_S512_S1x512) (ix2 0 k)) (x (ix2 0 k)) := by
  pointwise

set_option maxHeartbeats 1600000 in
/-- The convolution's bias. -/
theorem host6 (c : Dev nD) (k : Fin 512) : @Eq EReal (V m c main_v2 (ix2 0 k)) (m ((c.tc : Thread nD τ).loc main_arg5) (ix2 0 k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast6 (m ((c.tc : Thread nD τ).loc main_arg5)) k

/-- The layer norm's gains, cast. -/
theorem cast7 (x : FVec Ideal S1x512 .f32) (k : Fin 512) : @Eq EReal ((shapeCast S1x512 (shapeCast S512 x shapeCasts_S1x512_S512) shapeCasts_S512_S1x512) (ix2 0 k)) (x (ix2 0 k)) := by
  pointwise

set_option maxHeartbeats 1600000 in
/-- The layer norm's gains. -/
theorem host7 (c : Dev nD) (k : Fin 512) : @Eq EReal (V m c main_v4 (ix2 0 k)) (m ((c.tc : Thread nD τ).loc main_arg6) (ix2 0 k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast7 (m ((c.tc : Thread nD τ).loc main_arg6)) k

/-- The layer norm's shifts, cast. -/
theorem cast8 (x : FVec Ideal S1x512 .f32) (k : Fin 512) : @Eq EReal ((shapeCast S1x512 (shapeCast S512 x shapeCasts_S1x512_S512) shapeCasts_S512_S1x512) (ix2 0 k)) (x (ix2 0 k)) := by
  pointwise

set_option maxHeartbeats 1600000 in
/-- The layer norm's shifts. -/
theorem host8 (c : Dev nD) (k : Fin 512) : @Eq EReal (V m c main_v6 (ix2 0 k)) (m ((c.tc : Thread nD τ).loc main_arg7) (ix2 0 k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast8 (m ((c.tc : Thread nD τ).loc main_arg7)) k

/-- The feed-forward norm's gains, cast. -/
theorem cast10 (x : FVec Ideal S1x1024 .f32) (k : Fin 1024) : @Eq EReal ((shapeCast S1x1024 (shapeCast S1024 x shapeCasts_S1x1024_S1024) shapeCasts_S1024_S1x1024) (ix2 0 k)) (x (ix2 0 k)) := by
  pointwise

set_option maxHeartbeats 1600000 in
/-- The feed-forward norm's gains. -/
theorem host10 (c : Dev nD) (k : Fin 1024) : @Eq EReal (V m c main_v10 (ix2 0 k)) (m ((c.tc : Thread nD τ).loc main_arg9) (ix2 0 k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast10 (m ((c.tc : Thread nD τ).loc main_arg9)) k

/-- The embedding norm's gains, cast. -/
theorem cast13 (x : FVec Ideal S1x1024 .f32) (k : Fin 1024) : @Eq EReal ((shapeCast S1x1024 (shapeCast S1024 x shapeCasts_S1x1024_S1024) shapeCasts_S1024_S1x1024) (ix2 0 k)) (x (ix2 0 k)) := by
  pointwise

set_option maxHeartbeats 1600000 in
/-- The embedding norm's gains. -/
theorem host13 (c : Dev nD) (k : Fin 1024) : @Eq EReal (V m c main_v16 (ix2 0 k)) (m ((c.tc : Thread nD τ).loc main_arg12) (ix2 0 k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast13 (m ((c.tc : Thread nD τ).loc main_arg12)) k

/-- The output projection, cast. -/
theorem cast9 (x : FVec Ideal S1x1024x1024 .f32) (i : Fin 1024) (k : Fin 1024) : @Eq EReal ((truncf (F := Ideal) .bf16 (shapeCast S1024x1024 x shapeCasts_S1x1024x1024_S1024x1024) bitsLt_bf16_f32) (ix2 i k)) (x (ix3 0 i k)) := by
  pointwise

set_option maxHeartbeats 1600000 in
/-- The output projection. -/
theorem host9 (c : Dev nD) (i : Fin 1024) (k : Fin 1024) : @Eq EReal (V m c main_v8 (ix2 i k)) (m ((c.tc : Thread nD τ).loc main_arg8) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast9 (m ((c.tc : Thread nD τ).loc main_arg8)) i k

/-- The gate and up projections, cast. -/
theorem cast11 (x : FVec Ideal S1x1024x5632 .f32) (i : Fin 1024) (k : Fin 5632) : @Eq EReal ((truncf (F := Ideal) .bf16 (shapeCast S1024x5632 x shapeCasts_S1x1024x5632_S1024x5632) bitsLt_bf16_f32) (ix2 i k)) (x (ix3 0 i k)) := by
  pointwise

set_option maxHeartbeats 1600000 in
/-- The gate and up projections. -/
theorem host11 (c : Dev nD) (i : Fin 1024) (k : Fin 5632) : @Eq EReal (V m c main_v12 (ix2 i k)) (m ((c.tc : Thread nD τ).loc main_arg10) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast11 (m ((c.tc : Thread nD τ).loc main_arg10)) i k

/-- The down projection, cast. -/
theorem cast12 (x : FVec Ideal S1x2816x1024 .f32) (i : Fin 2816) (k : Fin 1024) : @Eq EReal ((truncf (F := Ideal) .bf16 (shapeCast S2816x1024 x shapeCasts_S1x2816x1024_S2816x1024) bitsLt_bf16_f32) (ix2 i k)) (x (ix3 0 i k)) := by
  pointwise

set_option maxHeartbeats 1600000 in
/-- The down projection. -/
theorem host12 (c : Dev nD) (i : Fin 2816) (k : Fin 1024) : @Eq EReal (V m c main_v14 (ix2 i k)) (m ((c.tc : Thread nD τ).loc main_arg11) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast12 (m ((c.tc : Thread nD τ).loc main_arg11)) i k

/-- The embedding's gate projection, cast. -/
theorem cast14 (x : FVec Ideal S1x1024x1024 .f32) (i : Fin 1024) (k : Fin 1024) : @Eq EReal ((truncf (F := Ideal) .bf16 (shapeCast S1024x1024 x shapeCasts_S1x1024x1024_S1024x1024) bitsLt_bf16_f32) (ix2 i k)) (x (ix3 0 i k)) := by
  pointwise

set_option maxHeartbeats 1600000 in
/-- The embedding's gate projection. -/
theorem host14 (c : Dev nD) (i : Fin 1024) (k : Fin 1024) : @Eq EReal (V m c main_v18 (ix2 i k)) (m ((c.tc : Thread nD τ).loc main_arg13) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast14 (m ((c.tc : Thread nD τ).loc main_arg13)) i k

/-- The embedding's projection, cast. -/
theorem cast15 (x : FVec Ideal S1x256x1024 .f32) (i : Fin 256) (k : Fin 1024) : @Eq EReal ((truncf (F := Ideal) .bf16 (shapeCast S256x1024 x shapeCasts_S1x256x1024_S256x1024) bitsLt_bf16_f32) (ix2 i k)) (x (ix3 0 i k)) := by
  pointwise

set_option maxHeartbeats 1600000 in
/-- The embedding's projection. -/
theorem host15 (c : Dev nD) (i : Fin 256) (k : Fin 1024) : @Eq EReal (V m c main_v20 (ix2 i k)) (m ((c.tc : Thread nD τ).loc main_arg14) (ix3 0 i k)) := by
  simp only [V, hostOps0, List.flatten_cons, List.flatten_nil, List.cons_append, List.nil_append, List.append_nil,
    StableHlo.TRef.nullary, StableHlo.TRef.binary, StableHlo.TRef.ternary, StableHlo.TRef.unary, StableHlo.TRef.toBuf, StableHlo.TRef.ofBuf, cast_eq]
  after_results_simp
  exact cast15 (m ((c.tc : Thread nD τ).loc main_arg14)) i k

/-- A block of the residual stream. -/
theorem read0 (c : Dev nD) (t : Fin cfg0.N) (q : Fin 512) (k : Fin 1024) : @Eq EReal (iblk m c 0 t (ix2 q k)) (m ((c.tc : Thread nD τ).loc main_arg0) (ix3 ⟨t.val / 16, by have := lt64 t; omega⟩ ⟨512 * (t.val % 16) + q.val, by omega⟩ k)) := by
  refine Eq.trans ?_ ((host0 m c ⟨512 * t.val + q.val, by have := lt64 t; omega⟩ k).trans (congrArg₂ (fun b s => m ((c.tc : Thread nD τ).loc main_arg0) (ix3 b s k)) (Fin.ext (by dsimp only; omega)) (Fin.ext (by dsimp only; omega))))
  blk_ext [iblk, idx t]

/-- A block of the attention. -/
theorem read1 (c : Dev nD) (t : Fin cfg0.N) (q : Fin 512) (k : Fin 512) : @Eq EReal (iblk m c 1 t (ix2 q k)) (m ((c.tc : Thread nD τ).loc main_arg1) (ix3 ⟨t.val / 16, by have := lt64 t; omega⟩ ⟨512 * (t.val % 16) + q.val, by omega⟩ k)) := by
  refine Eq.trans ?_ ((host1 m c ⟨512 * t.val + q.val, by have := lt64 t; omega⟩ k).trans (congrArg₂ (fun b s => m ((c.tc : Thread nD τ).loc main_arg1) (ix3 b s k)) (Fin.ext (by dsimp only; omega)) (Fin.ext (by dsimp only; omega))))
  blk_ext [iblk, idx t]

/-- A block of the gated values. -/
theorem read2 (c : Dev nD) (t : Fin cfg0.N) (q k : Fin 512) : @Eq EReal (iblk m c 2 t (ix2 q k)) (m ((c.tc : Thread nD τ).loc main_arg2) (ix2 ⟨512 * t.val + q.val, by have := lt64 t; omega⟩ k)) := by
  blk_ext [iblk, V, idx t]

/-- The 32 rows before a block. -/
theorem read3 (c : Dev nD) (t : Fin cfg0.N) (r : Fin 32) (k : Fin 512) (h : 0 < t.val) :
    @Eq EReal (iblk m c 3 t (ix3 0 r k)) (m ((c.tc : Thread nD τ).loc main_arg2) (ix2 ⟨512 * t.val + r.val - 32, by have := lt64 t; omega⟩ k)) := by
  refine Eq.trans ?_ ((host3 m c ⟨16 * t.val - 1, by have := lt64 t; omega⟩ r k).trans (congrArg (fun i => m ((c.tc : Thread nD τ).loc main_arg2) (ix2 i k)) (Fin.ext (by dsimp only; omega))))
  blk_ext [iblk, idx t]

/-- A block of the embeddings. -/
theorem read4 (c : Dev nD) (t : Fin cfg0.N) (q : Fin 512) (k : Fin 256) : @Eq EReal (iblk m c 4 t (ix2 q k)) (m ((c.tc : Thread nD τ).loc main_arg3) (ix4 0 ⟨t.val / 16, by have := lt64 t; omega⟩ ⟨512 * (t.val % 16) + q.val, by omega⟩ k)) := by
  refine Eq.trans ?_ ((host4 m c ⟨512 * t.val + q.val, by have := lt64 t; omega⟩ k).trans (congrArg₂ (fun b s => m ((c.tc : Thread nD τ).loc main_arg3) (ix4 0 b s k)) (Fin.ext (by dsimp only; omega)) (Fin.ext (by dsimp only; omega))))
  blk_ext [iblk, idx t]

/-- The taps' weights. -/
theorem read5 (c : Dev nD) (t : Fin cfg0.N) (i : Fin 31) (k : Fin 512) : @Eq EReal (iblk m c 5 t (ix2 i k)) (m ((c.tc : Thread nD τ).loc main_arg4) (ix3 0 i k)) := by
  refine Eq.trans ?_ (host5 m c i k)
  blk_ext [iblk, idx t]

/-- The convolution's bias. -/
theorem read6 (c : Dev nD) (t : Fin cfg0.N) (k : Fin 512) : @Eq EReal (iblk m c 6 t (ix2 0 k)) (m ((c.tc : Thread nD τ).loc main_arg5) (ix2 0 k)) := by
  refine Eq.trans ?_ (host6 m c k)
  blk_ext [iblk, idx t]

/-- The layer norm's gains. -/
theorem read7 (c : Dev nD) (t : Fin cfg0.N) (k : Fin 512) : @Eq EReal (iblk m c 7 t (ix2 0 k)) (m ((c.tc : Thread nD τ).loc main_arg6) (ix2 0 k)) := by
  refine Eq.trans ?_ (host7 m c k)
  blk_ext [iblk, idx t]

/-- The layer norm's shifts. -/
theorem read8 (c : Dev nD) (t : Fin cfg0.N) (k : Fin 512) : @Eq EReal (iblk m c 8 t (ix2 0 k)) (m ((c.tc : Thread nD τ).loc main_arg7) (ix2 0 k)) := by
  refine Eq.trans ?_ (host8 m c k)
  blk_ext [iblk, idx t]

/-- The feed-forward norm's gains. -/
theorem read10 (c : Dev nD) (t : Fin cfg0.N) (k : Fin 1024) : @Eq EReal (iblk m c 10 t (ix2 0 k)) (m ((c.tc : Thread nD τ).loc main_arg9) (ix2 0 k)) := by
  refine Eq.trans ?_ (host10 m c k)
  blk_ext [iblk, idx t]

/-- The embedding norm's gains. -/
theorem read13 (c : Dev nD) (t : Fin cfg0.N) (k : Fin 1024) : @Eq EReal (iblk m c 13 t (ix2 0 k)) (m ((c.tc : Thread nD τ).loc main_arg12) (ix2 0 k)) := by
  refine Eq.trans ?_ (host13 m c k)
  blk_ext [iblk, idx t]

/-- The output projection. -/
theorem read9 (c : Dev nD) (t : Fin cfg0.N) (i : Fin 1024) (k : Fin 1024) : @Eq EReal (iblk m c 9 t (ix2 i k)) (m ((c.tc : Thread nD τ).loc main_arg8) (ix3 0 i k)) := by
  refine Eq.trans ?_ (host9 m c i k)
  blk_ext [iblk, idx t]

/-- The gate and up projections. -/
theorem read11 (c : Dev nD) (t : Fin cfg0.N) (i : Fin 1024) (k : Fin 5632) : @Eq EReal (iblk m c 11 t (ix2 i k)) (m ((c.tc : Thread nD τ).loc main_arg10) (ix3 0 i k)) := by
  refine Eq.trans ?_ (host11 m c i k)
  blk_ext [iblk, idx t]

/-- The down projection. -/
theorem read12 (c : Dev nD) (t : Fin cfg0.N) (i : Fin 2816) (k : Fin 1024) : @Eq EReal (iblk m c 12 t (ix2 i k)) (m ((c.tc : Thread nD τ).loc main_arg11) (ix3 0 i k)) := by
  refine Eq.trans ?_ (host12 m c i k)
  blk_ext [iblk, idx t]

/-- The embedding's gate projection. -/
theorem read14 (c : Dev nD) (t : Fin cfg0.N) (i : Fin 1024) (k : Fin 1024) : @Eq EReal (iblk m c 14 t (ix2 i k)) (m ((c.tc : Thread nD τ).loc main_arg13) (ix3 0 i k)) := by
  refine Eq.trans ?_ (host14 m c i k)
  blk_ext [iblk, idx t]

/-- The embedding's projection. -/
theorem read15 (c : Dev nD) (t : Fin cfg0.N) (i : Fin 256) (k : Fin 1024) : @Eq EReal (iblk m c 15 t (ix2 i k)) (m ((c.tc : Thread nD τ).loc main_arg14) (ix3 0 i k)) := by
  refine Eq.trans ?_ (host15 m c i k)
  blk_ext [iblk, idx t]

end Cert.Kernel3Ideal.TailWin
-- ==== Proof.TailValue.lean ====
module

public import proofs.«01_k».proof.Proof.TailPay
public import proofs.«01_k».proof.Proof.TailConv
public import proofs.«01_k».proof.Proof.TailWin

@[expose] public section

set_option maxRecDepth 16384

noncomputable section

/-! The second half's result array is its formula over the program's arguments. -/

namespace Cert.Kernel3Ideal.TailValue

open Cert.Kernel3Ideal Cert.Kernel3Ideal.Gen Cert.Kernel3Ideal.TailPay Cert.Kernel3Ideal.TailConv Cert.Kernel3Ideal.TailWin Cert.Tail Idealize.ShloMosaic Idealize.ShloMosaic.TcCoe Idealize.SL.Sem
open Idealize.ShloMosaic.Pipeline (Dat)

variable (m : (ℓ : Loc nD τ sig) → Buf (Elt Ideal) ℓ)

/-- A load of a rectangle of a matrix reads the matrix at the rectangle's offset. -/
theorem ld_at {n0 n1 m0 m1 : ℕ} {e : EltTy} (X : Vec Ideal ⟨2, ![n0, n1]⟩ e) (r c : ℕ) (inb : ∀ a, (![r, c] : Fin 2 → ℕ) a + (![m0, m1] : Fin 2 → ℕ) a ≤ (⟨2, ![n0, n1]⟩ : Shape).size a)
    (i : Fin m0) (j : Fin m1) (i' : Fin n0) (j' : Fin n1) (hi : i'.val = r + i.val) (hj : j'.val = c + j.val) :
    View.ld (Val := Elt Ideal) X (Rect.unit (s := ⟨2, ![n0, n1]⟩) ![r, c] ![m0, m1] inb) (ix2 i j) = X (ix2 i' j') := by
  refine congrArg X ?_
  funext a
  apply Fin.ext
  refine (Rect.idx_unit_val (s := ⟨2, ![n0, n1]⟩) ![r, c] ![m0, m1] inb (ix2 i j) a).trans ?_
  match a with
  | ⟨0, _⟩ => exact hi.symm
  | ⟨1, _⟩ => exact hj.symm

set_option maxHeartbeats 3200000 in
/-- What the body leaves in its block, from what its input blocks hold. -/
theorem out_val (X : SX.Idx → EReal) (A : SA.Idx → EReal) (Gl : SG.Idx → EReal) (P : SP.Idx → EReal) (CW : SCW.Idx → EReal) (CB LG LB : SC.Idx → EReal)
    (W : SW.Idx → EReal) (GF : SD.Idx → EReal) (U : SU.Idx → EReal) (D : SDn.Idx → EReal) (GP : SD.Idx → EReal) (G : SW.Idx → EReal) (E : SE.Idx → EReal)
    (c : Dev nD) (t : Fin cfg0.N) (n : Fin 64) (hn : (grid0.coords t 0).val = n.val)
    (h0 : ∀ (q : Fin 512) (k : Fin 1024), @Eq EReal (iblk m c 0 t (ix2 q k)) (X (ix3 ⟨n.val / 16, by omega⟩ ⟨512 * (n.val % 16) + q.val, by omega⟩ k)))
    (h1 : ∀ (q : Fin 512) (k : Fin 512), @Eq EReal (iblk m c 1 t (ix2 q k)) (A (ix3 ⟨n.val / 16, by omega⟩ ⟨512 * (n.val % 16) + q.val, by omega⟩ k)))
    (h2 : ∀ (q k : Fin 512), @Eq EReal (iblk m c 2 t (ix2 q k)) (Gl (ix2 ⟨512 * n.val + q.val, by omega⟩ k)))
    (h3 : ∀ (r : Fin 32) (k : Fin 512), 0 < n.val → @Eq EReal (iblk m c 3 t (ix3 0 r k)) (Gl (ix2 ⟨512 * n.val + r.val - 32, by omega⟩ k)))
    (h4 : ∀ (q : Fin 512) (k : Fin 256), @Eq EReal (iblk m c 4 t (ix2 q k)) (P (ix4 0 ⟨n.val / 16, by omega⟩ ⟨512 * (n.val % 16) + q.val, by omega⟩ k)))
    (h5 : ∀ (i : Fin 31) (k : Fin 512), @Eq EReal (iblk m c 5 t (ix2 i k)) (CW (ix3 0 i k)))
    (h6 : ∀ k : Fin 512, @Eq EReal (iblk m c 6 t (ix2 0 k)) (CB (ix2 0 k)))
    (h7 : ∀ k : Fin 512, @Eq EReal (iblk m c 7 t (ix2 0 k)) (LG (ix2 0 k)))
    (h8 : ∀ k : Fin 512, @Eq EReal (iblk m c 8 t (ix2 0 k)) (LB (ix2 0 k)))
    (h9 : ∀ i k : Fin 1024, @Eq EReal (iblk m c 9 t (ix2 i k)) (W (ix3 0 i k)))
    (h10 : ∀ k : Fin 1024, @Eq EReal (iblk m c 10 t (ix2 0 k)) (GF (ix2 0 k)))
    (h11 : ∀ (i : Fin 1024) (k : Fin 5632), @Eq EReal (iblk m c 11 t (ix2 i k)) (U (ix3 0 i k)))
    (h12 : ∀ (i : Fin 2816) (k : Fin 1024), @Eq EReal (iblk m c 12 t (ix2 i k)) (D (ix3 0 i k)))
    (h13 : ∀ k : Fin 1024, @Eq EReal (iblk m c 13 t (ix2 0 k)) (GP (ix2 0 k)))
    (h14 : ∀ i k : Fin 1024, @Eq EReal (iblk m c 14 t (ix2 i k)) (G (ix3 0 i k)))
    (h15 : ∀ (i : Fin 256) (k : Fin 1024), @Eq EReal (iblk m c 15 t (ix2 i k)) (E (ix3 0 i k)))
    (p : Fin 512) (d : Fin 1024) :
    @Eq EReal (outsAt0 m c t (ix2 p d)) (tail X A Gl P CW CB LG LB W GF U D GP G E ⟨n.val / 16, by omega⟩ ⟨512 * (n.val % 16) + p.val, by omega⟩ d) := by
  unfold outsAt0
  frame_out
  generalize iblk m c 0 t = X0 at h0 ⊢
  generalize iblk m c 1 t = X1 at h1 ⊢
  generalize iblk m c 2 t = X2 at h2 ⊢
  generalize iblk m c 3 t = X3 at h3 ⊢
  generalize iblk m c 4 t = X4 at h4 ⊢
  generalize iblk m c 5 t = X5 at h5 ⊢
  generalize iblk m c 6 t = X6 at h6 ⊢
  generalize iblk m c 7 t = X7 at h7 ⊢
  generalize iblk m c 8 t = X8 at h8 ⊢
  generalize iblk m c 9 t = X9 at h9 ⊢
  generalize iblk m c 10 t = X10 at h10 ⊢
  generalize iblk m c 11 t = X11 at h11 ⊢
  generalize iblk m c 12 t = X12 at h12 ⊢
  generalize iblk m c 13 t = X13 at h13 ⊢
  generalize iblk m c 14 t = X14 at h14 ⊢
  generalize iblk m c 15 t = X15 at h15 ⊢
  have htap := tap_val Gl (grid0.coords t) n hn X2 X3 h2 h3
  have hw : ∀ (o : ℕ) (inb : ∀ a, (![o, 0] : Fin 2 → ℕ) a + (![1, 512] : Fin 2 → ℕ) a ≤ S31x512.size a) (w : Fin 31) (ho : o = w.val) (k : Fin 512),
      @Eq EReal (View.ld (Val := Elt Ideal) (e' := .f32) X5 (Rect.unit (s := S31x512) ![o, 0] ![1, 512] inb) (ix2 0 k)) (CW (ix3 0 w k)) := fun o inb w ho k => by
    subst ho
    exact (ld_at X5 w.val 0 inb 0 k w k rfl (Nat.zero_add _).symm).trans (h5 w k)
  have hconv := fun k => conv_val _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ X6 p k
    (fun w => tap Gl ⟨n.val / 16, by omega⟩ ⟨512 * (n.val % 16) + p.val, by omega⟩ w k) (fun w => CW (ix3 0 w k))
    (htap 2 inb_S1x544x512_S1x512x512_0_2_0 0 rfl p k) (htap 3 inb_S1x544x512_S1x512x512_0_3_0 1 rfl p k) (htap 4 inb_S1x544x512_S1x512x512_0_4_0 2 rfl p k) (htap 5 inb_S1x544x512_S1x512x512_0_5_0 3 rfl p k) (htap 6 inb_S1x544x512_S1x512x512_0_6_0 4 rfl p k) (htap 7 inb_S1x544x512_S1x512x512_0_7_0 5 rfl p k) (htap 8 inb_S1x544x512_S1x512x512_0_8_0 6 rfl p k) (htap 9 inb_S1x544x512_S1x512x512_0_9_0 7 rfl p k) (htap 10 inb_S1x544x512_S1x512x512_0_10_0 8 rfl p k) (htap 11 inb_S1x544x512_S1x512x512_0_11_0 9 rfl p k) (htap 12 inb_S1x544x512_S1x512x512_0_12_0 10 rfl p k) (htap 13 inb_S1x544x512_S1x512x512_0_13_0 11 rfl p k) (htap 14 inb_S1x544x512_S1x512x512_0_14_0 12 rfl p k) (htap 15 inb_S1x544x512_S1x512x512_0_15_0 13 rfl p k) (htap 16 inb_S1x544x512_S1x512x512_0_16_0 14 rfl p k) (htap 17 inb_S1x544x512_S1x512x512_0_17_0 15 rfl p k) (htap 18 inb_S1x544x512_S1x512x512_0_18_0 16 rfl p k) (htap 19 inb_S1x544x512_S1x512x512_0_19_0 17 rfl p k) (htap 20 inb_S1x544x512_S1x512x512_0_20_0 18 rfl p k) (htap 21 inb_S1x544x512_S1x512x512_0_21_0 19 rfl p k) (htap 22 inb_S1x544x512_S1x512x512_0_22_0 20 rfl p k) (htap 23 inb_S1x544x512_S1x512x512_0_23_0 21 rfl p k) (htap 24 inb_S1x544x512_S1x512x512_0_24_0 22 rfl p k) (htap 25 inb_S1x544x512_S1x512x512_0_25_0 23 rfl p k) (htap 26 inb_S1x544x512_S1x512x512_0_26_0 24 rfl p k) (htap 27 inb_S1x544x512_S1x512x512_0_27_0 25 rfl p k) (htap 28 inb_S1x544x512_S1x512x512_0_28_0 26 rfl p k) (htap 29 inb_S1x544x512_S1x512x512_0_29_0 27 rfl p k) (htap 30 inb_S1x544x512_S1x512x512_0_30_0 28 rfl p k) (htap 31 inb_S1x544x512_S1x512x512_0_31_0 29 rfl p k) (htap 32 inb_S1x544x512_S1x512x512_0_32_0 30 rfl p k)
    (hw 0 inb_S31x512_S1x512_0_0 0 rfl k) (hw 1 inb_S31x512_S1x512_1_0 1 rfl k) (hw 2 inb_S31x512_S1x512_2_0 2 rfl k) (hw 3 inb_S31x512_S1x512_3_0 3 rfl k) (hw 4 inb_S31x512_S1x512_4_0 4 rfl k) (hw 5 inb_S31x512_S1x512_5_0 5 rfl k) (hw 6 inb_S31x512_S1x512_6_0 6 rfl k) (hw 7 inb_S31x512_S1x512_7_0 7 rfl k) (hw 8 inb_S31x512_S1x512_8_0 8 rfl k) (hw 9 inb_S31x512_S1x512_9_0 9 rfl k) (hw 10 inb_S31x512_S1x512_10_0 10 rfl k) (hw 11 inb_S31x512_S1x512_11_0 11 rfl k) (hw 12 inb_S31x512_S1x512_12_0 12 rfl k) (hw 13 inb_S31x512_S1x512_13_0 13 rfl k) (hw 14 inb_S31x512_S1x512_14_0 14 rfl k) (hw 15 inb_S31x512_S1x512_15_0 15 rfl k) (hw 16 inb_S31x512_S1x512_16_0 16 rfl k) (hw 17 inb_S31x512_S1x512_17_0 17 rfl k) (hw 18 inb_S31x512_S1x512_18_0 18 rfl k) (hw 19 inb_S31x512_S1x512_19_0 19 rfl k) (hw 20 inb_S31x512_S1x512_20_0 20 rfl k) (hw 21 inb_S31x512_S1x512_21_0 21 rfl k) (hw 22 inb_S31x512_S1x512_22_0 22 rfl k) (hw 23 inb_S31x512_S1x512_23_0 23 rfl k) (hw 24 inb_S31x512_S1x512_24_0 24 rfl k) (hw 25 inb_S31x512_S1x512_25_0 25 rfl k) (hw 26 inb_S31x512_S1x512_26_0 26 rfl k) (hw 27 inb_S31x512_S1x512_27_0 27 rfl k) (hw 28 inb_S31x512_S1x512_28_0 28 rfl k) (hw 29 inb_S31x512_S1x512_29_0 29 rfl k) (hw 30 inb_S31x512_S1x512_30_0 30 rfl k)
  have hy := fun k => (hconv k).trans (congrArg (_ + ·) (h6 k))
  have hhid := hid_val _ _ X7 X8 X0 X1 (View.ld (Val := Elt Ideal) (e' := .bf16) X9 (Rect.unit ![0, 0] ![512, 1024] inb_S1024x1024_S512x1024_0_0))
    (View.ld (Val := Elt Ideal) (e' := .bf16) X9 (Rect.unit ![512, 0] ![512, 1024] inb_S1024x1024_S512x1024_512_0)) p _ _ _ _ _ (fun k d => W (ix3 0 k d)) hy h7 h8 (h0 p) (h1 p)
    (fun k d => (ld_at X9 0 0 _ k d ⟨k.val, by omega⟩ d (Nat.zero_add _).symm (Nat.zero_add _).symm).trans (h9 ⟨k.val, by omega⟩ d)) (fun k d => (ld_at X9 512 0 _ k d ⟨512 + k.val, by omega⟩ d rfl (Nat.zero_add _).symm).trans (h9 ⟨512 + k.val, by omega⟩ d))
  have hrms := rms_val _ X10 p _ _ hhid h10
  have hp0 := part0_val _ X10 (View.ld (Val := Elt Ideal) (e' := .bf16) X11 (Rect.unit ![0, 0] ![1024, 1024] inb_S1024x5632_S1024x1024_0_0))
    (View.ld (Val := Elt Ideal) (e' := .bf16) X11 (Rect.unit ![0, 2816] ![1024, 1024] inb_S1024x5632_S1024x1024_0_2816))
    (View.ld (Val := Elt Ideal) (e' := .bf16) X12 (Rect.unit ![0, 0] ![1024, 1024] inb_S2816x1024_S1024x1024_0_0)) p _ (fun k j => U (ix3 0 k j)) (fun j d => D (ix3 0 j d)) hrms
    (fun k j => (ld_at X11 0 0 _ k j k ⟨j.val, by omega⟩ (Nat.zero_add _).symm (by dsimp only <;> omega)).trans (h11 k ⟨j.val, by omega⟩)) (fun k j => (ld_at X11 0 2816 _ k j k ⟨2816 + j.val, by omega⟩ (Nat.zero_add _).symm (by dsimp only <;> omega)).trans (h11 k ⟨2816 + j.val, by omega⟩))
    (fun j d => (ld_at X12 0 0 _ j d ⟨j.val, by omega⟩ d (by dsimp only <;> omega) (Nat.zero_add _).symm).trans (h12 ⟨j.val, by omega⟩ d))
  have hp1 := act1_val _ X10 (View.ld (Val := Elt Ideal) (e' := .bf16) X11 (Rect.unit ![0, 1024] ![1024, 1024] inb_S1024x5632_S1024x1024_0_1024))
    (View.ld (Val := Elt Ideal) (e' := .bf16) X11 (Rect.unit ![0, 3840] ![1024, 1024] inb_S1024x5632_S1024x1024_0_3840)) p _ (fun k j => U (ix3 0 k j)) hrms
    (fun k j => (ld_at X11 0 1024 _ k j k ⟨1024 + j.val, by omega⟩ (Nat.zero_add _).symm (by dsimp only <;> omega)).trans (h11 k ⟨1024 + j.val, by omega⟩)) (fun k j => (ld_at X11 0 3840 _ k j k ⟨2816 + (1024 + j.val), by omega⟩ (Nat.zero_add _).symm (by dsimp only <;> omega)).trans (h11 k ⟨2816 + (1024 + j.val), by omega⟩))
  have hffn := ffn_val _ _ _ _ (View.ld (Val := Elt Ideal) (e' := .bf16) X12 (Rect.unit ![1024, 0] ![1024, 1024] inb_S2816x1024_S1024x1024_1024_0))
    (View.ld (Val := Elt Ideal) (e' := .bf16) X11 (Rect.unit ![0, 2048] ![1024, 768] inb_S1024x5632_S1024x768_0_2048))
    (View.ld (Val := Elt Ideal) (e' := .bf16) X11 (Rect.unit ![0, 4864] ![1024, 768] inb_S1024x5632_S1024x768_0_4864))
    (View.ld (Val := Elt Ideal) (e' := .bf16) X12 (Rect.unit ![2048, 0] ![768, 1024] inb_S2816x1024_S768x1024_2048_0)) p _ _ (fun k j => U (ix3 0 k j)) (fun j d => D (ix3 0 j d))
    hhid hrms hp0 hp1 (fun j d => (ld_at X12 1024 0 _ j d ⟨1024 + j.val, by omega⟩ d (by dsimp only <;> omega) (Nat.zero_add _).symm).trans (h12 ⟨1024 + j.val, by omega⟩ d))
    (fun k j => (ld_at X11 0 2048 _ k j k ⟨2048 + j.val, by omega⟩ (Nat.zero_add _).symm (by dsimp only <;> omega)).trans (h11 k ⟨2048 + j.val, by omega⟩)) (fun k j => (ld_at X11 0 4864 _ k j k ⟨2816 + (2048 + j.val), by omega⟩ (Nat.zero_add _).symm (by dsimp only <;> omega)).trans (h11 k ⟨2816 + (2048 + j.val), by omega⟩))
    (fun j d => (ld_at X12 2048 0 _ j d ⟨2048 + j.val, by omega⟩ d (by dsimp only <;> omega) (Nat.zero_add _).symm).trans (h12 ⟨2048 + j.val, by omega⟩ d))
  have hgate := gate_val _ _ _ _ _ _ _ _ X13 X14 p _ _ (fun k d => G (ix3 0 k d)) hffn h13 h14
  exact emb_val _ _ X4 X15 p _ _ _ _ (fun k d => E (ix3 0 k d)) hffn hgate (h4 p) h15 d

/-- The rows of the layer's tail, all sequences under one another. -/
def tailArr (X : SX.Idx → EReal) (A : SA.Idx → EReal) (Gl : SG.Idx → EReal) (P : SP.Idx → EReal) (CW : SCW.Idx → EReal) (CB LG LB : SC.Idx → EReal)
    (W : SW.Idx → EReal) (GF : SD.Idx → EReal) (U : SU.Idx → EReal) (D : SDn.Idx → EReal) (GP : SD.Idx → EReal) (G : SW.Idx → EReal) (E : SE.Idx → EReal) :
    FVec Ideal S32768x1024 .f32 :=
  fun y => tail X A Gl P CW CB LG LB W GF U D GP G E ⟨(y 0).val / 8192, by have := (y 0).isLt; simp only [S32768x1024, Matrix.cons_val_zero] at this; omega⟩
    ⟨(y 0).val % 8192, by omega⟩ ⟨(y 1).val, (y 1).isLt⟩

set_option maxHeartbeats 3200000 in
/-- What an invocation leaves in its block, at any entry of the block. -/
theorem out_at (c : Dev nD) (t : Fin cfg0.N) (p : Fin 512) (d : Fin 1024) :
    @Eq EReal (outsAt0 m c t (ix2 p d)) (tail (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14))
      ⟨t.val / 16, by have := lt64 t; omega⟩ ⟨512 * (t.val % 16) + p.val, by omega⟩ d) := by
  refine out_val m (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) c t ⟨t.val, lt64 t⟩ (idx t).2.2.2.2.2.2.2.2.2.2.2.2.2.2.2.2.2.1
    ?_ ?_ ?_ ?_ ?_ ?_ ?_ ?_ ?_ ?_ ?_ ?_ ?_ ?_ ?_ ?_ p d
  · intro q k; exact read0 m c t q k
  · intro q k; exact read1 m c t q k
  · intro q k; exact read2 m c t q k
  · intro r k h; exact read3 m c t r k h
  · intro q k; exact read4 m c t q k
  · intro q k; exact read5 m c t q k
  · intro k; exact read6 m c t k
  · intro k; exact read7 m c t k
  · intro k; exact read8 m c t k
  · intro q k; exact read9 m c t q k
  · intro k; exact read10 m c t k
  · intro q k; exact read11 m c t q k
  · intro q k; exact read12 m c t q k
  · intro k; exact read13 m c t k
  · intro q k; exact read14 m c t q k
  · intro q k; exact read15 m c t q k

set_option maxHeartbeats 3200000 in
/-- The kernel's result array is the layer's tail over its arguments. -/
theorem final (c : Dev nD) : (dats m 0 c).arrAt 16 cfg0.N
    = tailArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) := by
  refine (dats m 0 c).arrAt_eq_of_covers 16 _ (by decide +kernel) fun t _ y => ?_
  blk_simp
  rw [after0_16]
  obtain ⟨p, d, rfl⟩ : ∃ (p : Fin 512) (d : Fin 1024), y = ix2 p d := ⟨y 0, y 1, eq_ix2 y⟩
  refine (out_at m c t p d).trans ?_
  have := lt64 t
  unfold tailArr
  congr 1 <;> apply Fin.ext <;> blk_simp [idx t] <;> (try dsimp only) <;> (try omega)

end Cert.Kernel3Ideal.TailValue
-- ==== Proof.TailRef.lean ====
module

public import proofs.«01_k».proof.Proof.Gen.Reference3Ideal.Read
public import proofs.«01_k».proof.Proof.Tail
public import Idealize.ShloMosaic.Lib.Pointwise
public import Idealize.ShloMosaic.Lib.Pipeline.ValueKit

@[expose] public section

set_option maxRecDepth 16384

noncomputable section

/-! The reference's second half read at an index, from the convolution to the result. -/

namespace Cert.Reference3Ideal.TailRef

open Cert.Reference3Ideal Cert.Reference3Ideal.Gen Cert.Reference3Ideal.Read Cert.Tail Idealize.ShloMosaic Idealize.ShloMosaic.TcCoe Idealize.SL.Sem

/-- The padded gated values: zero in the first 30 places of a sequence. -/
theorem pad_at (x2 : FVec Ideal S32768x512 .f32) (b : Fin 4) (q : Fin 8222) (c : Fin 512) :
    @Eq EReal (val_main_v1 (F := Ideal) x2 (ix3 b q c)) (if h : 30 ≤ q.val then x2 (ix2 ⟨8192 * b.val + (q.val - 30), by omega⟩ c) else 0) := by
  unfold val_main_v1
  pointwise [val_main_v0, val_main_call0_v0, val_main_c]
  by_cases h : 30 ≤ q.val
  · rw [dif_pos ⟨h, by omega⟩, dif_pos h]
    blk_ext
  · rw [dif_neg (fun hh => h hh.1), dif_neg h]
    show (((0#32 : BitVec 32).toInt : ℝ) : EReal) = 0
    simp

/-- The padded values at tap `w` of position `s`. -/
theorem tap_at (x2 : FVec Ideal S32768x512 .f32) (b : Fin 4) (s : Fin 8192) (w : Fin 31) (c : Fin 512) (q : Fin 8222) (hq : q.val = w.val + s.val) :
    @Eq EReal (val_main_v1 (F := Ideal) x2 (ix3 b q c)) (tap x2 b s w c) := by
  refine (pad_at x2 b q c).trans ?_
  unfold tap
  by_cases h : 30 ≤ s.val + w.val
  · rw [dif_pos h, dif_pos (show 30 ≤ q.val by omega)]
    refine congrArg x2 (congrArg (fun r => ix2 r c) (Fin.ext ?_))
    dsimp only
    omega
  · rw [dif_neg h, dif_neg (show ¬ 30 ≤ q.val by omega)]

/-- Tap 0 of the convolution. -/
theorem tap0 (x2 : FVec Ideal S32768x512 .f32) (x4 : FVec Ideal S1x31x512 .f32) (b : Fin 4) (s : Fin 8192) (c : Fin 512) :
    @Eq EReal (val_main_v7 (F := Ideal) x2 x4 (ix3 b s c)) (tap x2 b s 0 c * x4 (ix3 0 0 c)) := by
  rw [← tap_at x2 b s 0 c ⟨0 + s.val, by omega⟩ rfl]
  unfold val_main_v7 val_main_v2 val_main_v6 val_main_v5 val_main_v4 val_main_v3
  generalize val_main_v1 (F := Ideal) x2 = z
  pointwise

/-- Tap 1 of the convolution. -/
theorem tap1 (x2 : FVec Ideal S32768x512 .f32) (x4 : FVec Ideal S1x31x512 .f32) (b : Fin 4) (s : Fin 8192) (c : Fin 512) :
    @Eq EReal (val_main_v13 (F := Ideal) x2 x4 (ix3 b s c)) (tap x2 b s 1 c * x4 (ix3 0 1 c)) := by
  rw [← tap_at x2 b s 1 c ⟨1 + s.val, by omega⟩ rfl]
  unfold val_main_v13 val_main_v8 val_main_v12 val_main_v11 val_main_v10 val_main_v9
  generalize val_main_v1 (F := Ideal) x2 = z
  pointwise

/-- Tap 2 of the convolution. -/
theorem tap2 (x2 : FVec Ideal S32768x512 .f32) (x4 : FVec Ideal S1x31x512 .f32) (b : Fin 4) (s : Fin 8192) (c : Fin 512) :
    @Eq EReal (val_main_v20 (F := Ideal) x2 x4 (ix3 b s c)) (tap x2 b s 2 c * x4 (ix3 0 2 c)) := by
  rw [← tap_at x2 b s 2 c ⟨2 + s.val, by omega⟩ rfl]
  unfold val_main_v20 val_main_v15 val_main_v19 val_main_v18 val_main_v17 val_main_v16
  generalize val_main_v1 (F := Ideal) x2 = z
  pointwise

/-- Tap 3 of the convolution. -/
theorem tap3 (x2 : FVec Ideal S32768x512 .f32) (x4 : FVec Ideal S1x31x512 .f32) (b : Fin 4) (s : Fin 8192) (c : Fin 512) :
    @Eq EReal (val_main_v27 (F := Ideal) x2 x4 (ix3 b s c)) (tap x2 b s 3 c * x4 (ix3 0 3 c)) := by
  rw [← tap_at x2 b s 3 c ⟨3 + s.val, by omega⟩ rfl]
  unfold val_main_v27 val_main_v22 val_main_v26 val_main_v25 val_main_v24 val_main_v23
  generalize val_main_v1 (F := Ideal) x2 = z
  pointwise

/-- Tap 4 of the convolution. -/
theorem tap4 (x2 : FVec Ideal S32768x512 .f32) (x4 : FVec Ideal S1x31x512 .f32) (b : Fin 4) (s : Fin 8192) (c : Fin 512) :
    @Eq EReal (val_main_v34 (F := Ideal) x2 x4 (ix3 b s c)) (tap x2 b s 4 c * x4 (ix3 0 4 c)) := by
  rw [← tap_at x2 b s 4 c ⟨4 + s.val, by omega⟩ rfl]
  unfold val_main_v34 val_main_v29 val_main_v33 val_main_v32 val_main_v31 val_main_v30
  generalize val_main_v1 (F := Ideal) x2 = z
  pointwise

/-- Tap 5 of the convolution. -/
theorem tap5 (x2 : FVec Ideal S32768x512 .f32) (x4 : FVec Ideal S1x31x512 .f32) (b : Fin 4) (s : Fin 8192) (c : Fin 512) :
    @Eq EReal (val_main_v41 (F := Ideal) x2 x4 (ix3 b s c)) (tap x2 b s 5 c * x4 (ix3 0 5 c)) := by
  rw [← tap_at x2 b s 5 c ⟨5 + s.val, by omega⟩ rfl]
  unfold val_main_v41 val_main_v36 val_main_v40 val_main_v39 val_main_v38 val_main_v37
  generalize val_main_v1 (F := Ideal) x2 = z
  pointwise

/-- Tap 6 of the convolution. -/
theorem tap6 (x2 : FVec Ideal S32768x512 .f32) (x4 : FVec Ideal S1x31x512 .f32) (b : Fin 4) (s : Fin 8192) (c : Fin 512) :
    @Eq EReal (val_main_v48 (F := Ideal) x2 x4 (ix3 b s c)) (tap x2 b s 6 c * x4 (ix3 0 6 c)) := by
  rw [← tap_at x2 b s 6 c ⟨6 + s.val, by omega⟩ rfl]
  unfold val_main_v48 val_main_v43 val_main_v47 val_main_v46 val_main_v45 val_main_v44
  generalize val_main_v1 (F := Ideal) x2 = z
  pointwise

/-- Tap 7 of the convolution. -/
theorem tap7 (x2 : FVec Ideal S32768x512 .f32) (x4 : FVec Ideal S1x31x512 .f32) (b : Fin 4) (s : Fin 8192) (c : Fin 512) :
    @Eq EReal (val_main_v55 (F := Ideal) x2 x4 (ix3 b s c)) (tap x2 b s 7 c * x4 (ix3 0 7 c)) := by
  rw [← tap_at x2 b s 7 c ⟨7 + s.val, by omega⟩ rfl]
  unfold val_main_v55 val_main_v50 val_main_v54 val_main_v53 val_main_v52 val_main_v51
  generalize val_main_v1 (F := Ideal) x2 = z
  pointwise

/-- Tap 8 of the convolution. -/
theorem tap8 (x2 : FVec Ideal S32768x512 .f32) (x4 : FVec Ideal S1x31x512 .f32) (b : Fin 4) (s : Fin 8192) (c : Fin 512) :
    @Eq EReal (val_main_v62 (F := Ideal) x2 x4 (ix3 b s c)) (tap x2 b s 8 c * x4 (ix3 0 8 c)) := by
  rw [← tap_at x2 b s 8 c ⟨8 + s.val, by omega⟩ rfl]
  unfold val_main_v62 val_main_v57 val_main_v61 val_main_v60 val_main_v59 val_main_v58
  generalize val_main_v1 (F := Ideal) x2 = z
  pointwise

/-- Tap 9 of the convolution. -/
theorem tap9 (x2 : FVec Ideal S32768x512 .f32) (x4 : FVec Ideal S1x31x512 .f32) (b : Fin 4) (s : Fin 8192) (c : Fin 512) :
    @Eq EReal (val_main_v69 (F := Ideal) x2 x4 (ix3 b s c)) (tap x2 b s 9 c * x4 (ix3 0 9 c)) := by
  rw [← tap_at x2 b s 9 c ⟨9 + s.val, by omega⟩ rfl]
  unfold val_main_v69 val_main_v64 val_main_v68 val_main_v67 val_main_v66 val_main_v65
  generalize val_main_v1 (F := Ideal) x2 = z
  pointwise

/-- Tap 10 of the convolution. -/
theorem tap10 (x2 : FVec Ideal S32768x512 .f32) (x4 : FVec Ideal S1x31x512 .f32) (b : Fin 4) (s : Fin 8192) (c : Fin 512) :
    @Eq EReal (val_main_v76 (F := Ideal) x2 x4 (ix3 b s c)) (tap x2 b s 10 c * x4 (ix3 0 10 c)) := by
  rw [← tap_at x2 b s 10 c ⟨10 + s.val, by omega⟩ rfl]
  unfold val_main_v76 val_main_v71 val_main_v75 val_main_v74 val_main_v73 val_main_v72
  generalize val_main_v1 (F := Ideal) x2 = z
  pointwise

/-- Tap 11 of the convolution. -/
theorem tap11 (x2 : FVec Ideal S32768x512 .f32) (x4 : FVec Ideal S1x31x512 .f32) (b : Fin 4) (s : Fin 8192) (c : Fin 512) :
    @Eq EReal (val_main_v83 (F := Ideal) x2 x4 (ix3 b s c)) (tap x2 b s 11 c * x4 (ix3 0 11 c)) := by
  rw [← tap_at x2 b s 11 c ⟨11 + s.val, by omega⟩ rfl]
  unfold val_main_v83 val_main_v78 val_main_v82 val_main_v81 val_main_v80 val_main_v79
  generalize val_main_v1 (F := Ideal) x2 = z
  pointwise

/-- Tap 12 of the convolution. -/
theorem tap12 (x2 : FVec Ideal S32768x512 .f32) (x4 : FVec Ideal S1x31x512 .f32) (b : Fin 4) (s : Fin 8192) (c : Fin 512) :
    @Eq EReal (val_main_v90 (F := Ideal) x2 x4 (ix3 b s c)) (tap x2 b s 12 c * x4 (ix3 0 12 c)) := by
  rw [← tap_at x2 b s 12 c ⟨12 + s.val, by omega⟩ rfl]
  unfold val_main_v90 val_main_v85 val_main_v89 val_main_v88 val_main_v87 val_main_v86
  generalize val_main_v1 (F := Ideal) x2 = z
  pointwise

/-- Tap 13 of the convolution. -/
theorem tap13 (x2 : FVec Ideal S32768x512 .f32) (x4 : FVec Ideal S1x31x512 .f32) (b : Fin 4) (s : Fin 8192) (c : Fin 512) :
    @Eq EReal (val_main_v97 (F := Ideal) x2 x4 (ix3 b s c)) (tap x2 b s 13 c * x4 (ix3 0 13 c)) := by
  rw [← tap_at x2 b s 13 c ⟨13 + s.val, by omega⟩ rfl]
  unfold val_main_v97 val_main_v92 val_main_v96 val_main_v95 val_main_v94 val_main_v93
  generalize val_main_v1 (F := Ideal) x2 = z
  pointwise

/-- Tap 14 of the convolution. -/
theorem tap14 (x2 : FVec Ideal S32768x512 .f32) (x4 : FVec Ideal S1x31x512 .f32) (b : Fin 4) (s : Fin 8192) (c : Fin 512) :
    @Eq EReal (val_main_v104 (F := Ideal) x2 x4 (ix3 b s c)) (tap x2 b s 14 c * x4 (ix3 0 14 c)) := by
  rw [← tap_at x2 b s 14 c ⟨14 + s.val, by omega⟩ rfl]
  unfold val_main_v104 val_main_v99 val_main_v103 val_main_v102 val_main_v101 val_main_v100
  generalize val_main_v1 (F := Ideal) x2 = z
  pointwise

/-- Tap 15 of the convolution. -/
theorem tap15 (x2 : FVec Ideal S32768x512 .f32) (x4 : FVec Ideal S1x31x512 .f32) (b : Fin 4) (s : Fin 8192) (c : Fin 512) :
    @Eq EReal (val_main_v111 (F := Ideal) x2 x4 (ix3 b s c)) (tap x2 b s 15 c * x4 (ix3 0 15 c)) := by
  rw [← tap_at x2 b s 15 c ⟨15 + s.val, by omega⟩ rfl]
  unfold val_main_v111 val_main_v106 val_main_v110 val_main_v109 val_main_v108 val_main_v107
  generalize val_main_v1 (F := Ideal) x2 = z
  pointwise

/-- Tap 16 of the convolution. -/
theorem tap16 (x2 : FVec Ideal S32768x512 .f32) (x4 : FVec Ideal S1x31x512 .f32) (b : Fin 4) (s : Fin 8192) (c : Fin 512) :
    @Eq EReal (val_main_v118 (F := Ideal) x2 x4 (ix3 b s c)) (tap x2 b s 16 c * x4 (ix3 0 16 c)) := by
  rw [← tap_at x2 b s 16 c ⟨16 + s.val, by omega⟩ rfl]
  unfold val_main_v118 val_main_v113 val_main_v117 val_main_v116 val_main_v115 val_main_v114
  generalize val_main_v1 (F := Ideal) x2 = z
  pointwise

/-- Tap 17 of the convolution. -/
theorem tap17 (x2 : FVec Ideal S32768x512 .f32) (x4 : FVec Ideal S1x31x512 .f32) (b : Fin 4) (s : Fin 8192) (c : Fin 512) :
    @Eq EReal (val_main_v125 (F := Ideal) x2 x4 (ix3 b s c)) (tap x2 b s 17 c * x4 (ix3 0 17 c)) := by
  rw [← tap_at x2 b s 17 c ⟨17 + s.val, by omega⟩ rfl]
  unfold val_main_v125 val_main_v120 val_main_v124 val_main_v123 val_main_v122 val_main_v121
  generalize val_main_v1 (F := Ideal) x2 = z
  pointwise

/-- Tap 18 of the convolution. -/
theorem tap18 (x2 : FVec Ideal S32768x512 .f32) (x4 : FVec Ideal S1x31x512 .f32) (b : Fin 4) (s : Fin 8192) (c : Fin 512) :
    @Eq EReal (val_main_v132 (F := Ideal) x2 x4 (ix3 b s c)) (tap x2 b s 18 c * x4 (ix3 0 18 c)) := by
  rw [← tap_at x2 b s 18 c ⟨18 + s.val, by omega⟩ rfl]
  unfold val_main_v132 val_main_v127 val_main_v131 val_main_v130 val_main_v129 val_main_v128
  generalize val_main_v1 (F := Ideal) x2 = z
  pointwise

/-- Tap 19 of the convolution. -/
theorem tap19 (x2 : FVec Ideal S32768x512 .f32) (x4 : FVec Ideal S1x31x512 .f32) (b : Fin 4) (s : Fin 8192) (c : Fin 512) :
    @Eq EReal (val_main_v139 (F := Ideal) x2 x4 (ix3 b s c)) (tap x2 b s 19 c * x4 (ix3 0 19 c)) := by
  rw [← tap_at x2 b s 19 c ⟨19 + s.val, by omega⟩ rfl]
  unfold val_main_v139 val_main_v134 val_main_v138 val_main_v137 val_main_v136 val_main_v135
  generalize val_main_v1 (F := Ideal) x2 = z
  pointwise

/-- Tap 20 of the convolution. -/
theorem tap20 (x2 : FVec Ideal S32768x512 .f32) (x4 : FVec Ideal S1x31x512 .f32) (b : Fin 4) (s : Fin 8192) (c : Fin 512) :
    @Eq EReal (val_main_v146 (F := Ideal) x2 x4 (ix3 b s c)) (tap x2 b s 20 c * x4 (ix3 0 20 c)) := by
  rw [← tap_at x2 b s 20 c ⟨20 + s.val, by omega⟩ rfl]
  unfold val_main_v146 val_main_v141 val_main_v145 val_main_v144 val_main_v143 val_main_v142
  generalize val_main_v1 (F := Ideal) x2 = z
  pointwise

/-- Tap 21 of the convolution. -/
theorem tap21 (x2 : FVec Ideal S32768x512 .f32) (x4 : FVec Ideal S1x31x512 .f32) (b : Fin 4) (s : Fin 8192) (c : Fin 512) :
    @Eq EReal (val_main_v153 (F := Ideal) x2 x4 (ix3 b s c)) (tap x2 b s 21 c * x4 (ix3 0 21 c)) := by
  rw [← tap_at x2 b s 21 c ⟨21 + s.val, by omega⟩ rfl]
  unfold val_main_v153 val_main_v148 val_main_v152 val_main_v151 val_main_v150 val_main_v149
  generalize val_main_v1 (F := Ideal) x2 = z
  pointwise

/-- Tap 22 of the convolution. -/
theorem tap22 (x2 : FVec Ideal S32768x512 .f32) (x4 : FVec Ideal S1x31x512 .f32) (b : Fin 4) (s : Fin 8192) (c : Fin 512) :
    @Eq EReal (val_main_v160 (F := Ideal) x2 x4 (ix3 b s c)) (tap x2 b s 22 c * x4 (ix3 0 22 c)) := by
  rw [← tap_at x2 b s 22 c ⟨22 + s.val, by omega⟩ rfl]
  unfold val_main_v160 val_main_v155 val_main_v159 val_main_v158 val_main_v157 val_main_v156
  generalize val_main_v1 (F := Ideal) x2 = z
  pointwise

/-- Tap 23 of the convolution. -/
theorem tap23 (x2 : FVec Ideal S32768x512 .f32) (x4 : FVec Ideal S1x31x512 .f32) (b : Fin 4) (s : Fin 8192) (c : Fin 512) :
    @Eq EReal (val_main_v167 (F := Ideal) x2 x4 (ix3 b s c)) (tap x2 b s 23 c * x4 (ix3 0 23 c)) := by
  rw [← tap_at x2 b s 23 c ⟨23 + s.val, by omega⟩ rfl]
  unfold val_main_v167 val_main_v162 val_main_v166 val_main_v165 val_main_v164 val_main_v163
  generalize val_main_v1 (F := Ideal) x2 = z
  pointwise

/-- Tap 24 of the convolution. -/
theorem tap24 (x2 : FVec Ideal S32768x512 .f32) (x4 : FVec Ideal S1x31x512 .f32) (b : Fin 4) (s : Fin 8192) (c : Fin 512) :
    @Eq EReal (val_main_v174 (F := Ideal) x2 x4 (ix3 b s c)) (tap x2 b s 24 c * x4 (ix3 0 24 c)) := by
  rw [← tap_at x2 b s 24 c ⟨24 + s.val, by omega⟩ rfl]
  unfold val_main_v174 val_main_v169 val_main_v173 val_main_v172 val_main_v171 val_main_v170
  generalize val_main_v1 (F := Ideal) x2 = z
  pointwise

/-- Tap 25 of the convolution. -/
theorem tap25 (x2 : FVec Ideal S32768x512 .f32) (x4 : FVec Ideal S1x31x512 .f32) (b : Fin 4) (s : Fin 8192) (c : Fin 512) :
    @Eq EReal (val_main_v181 (F := Ideal) x2 x4 (ix3 b s c)) (tap x2 b s 25 c * x4 (ix3 0 25 c)) := by
  rw [← tap_at x2 b s 25 c ⟨25 + s.val, by omega⟩ rfl]
  unfold val_main_v181 val_main_v176 val_main_v180 val_main_v179 val_main_v178 val_main_v177
  generalize val_main_v1 (F := Ideal) x2 = z
  pointwise

/-- Tap 26 of the convolution. -/
theorem tap26 (x2 : FVec Ideal S32768x512 .f32) (x4 : FVec Ideal S1x31x512 .f32) (b : Fin 4) (s : Fin 8192) (c : Fin 512) :
    @Eq EReal (val_main_v188 (F := Ideal) x2 x4 (ix3 b s c)) (tap x2 b s 26 c * x4 (ix3 0 26 c)) := by
  rw [← tap_at x2 b s 26 c ⟨26 + s.val, by omega⟩ rfl]
  unfold val_main_v188 val_main_v183 val_main_v187 val_main_v186 val_main_v185 val_main_v184
  generalize val_main_v1 (F := Ideal) x2 = z
  pointwise

/-- Tap 27 of the convolution. -/
theorem tap27 (x2 : FVec Ideal S32768x512 .f32) (x4 : FVec Ideal S1x31x512 .f32) (b : Fin 4) (s : Fin 8192) (c : Fin 512) :
    @Eq EReal (val_main_v195 (F := Ideal) x2 x4 (ix3 b s c)) (tap x2 b s 27 c * x4 (ix3 0 27 c)) := by
  rw [← tap_at x2 b s 27 c ⟨27 + s.val, by omega⟩ rfl]
  unfold val_main_v195 val_main_v190 val_main_v194 val_main_v193 val_main_v192 val_main_v191
  generalize val_main_v1 (F := Ideal) x2 = z
  pointwise

/-- Tap 28 of the convolution. -/
theorem tap28 (x2 : FVec Ideal S32768x512 .f32) (x4 : FVec Ideal S1x31x512 .f32) (b : Fin 4) (s : Fin 8192) (c : Fin 512) :
    @Eq EReal (val_main_v202 (F := Ideal) x2 x4 (ix3 b s c)) (tap x2 b s 28 c * x4 (ix3 0 28 c)) := by
  rw [← tap_at x2 b s 28 c ⟨28 + s.val, by omega⟩ rfl]
  unfold val_main_v202 val_main_v197 val_main_v201 val_main_v200 val_main_v199 val_main_v198
  generalize val_main_v1 (F := Ideal) x2 = z
  pointwise

/-- Tap 29 of the convolution. -/
theorem tap29 (x2 : FVec Ideal S32768x512 .f32) (x4 : FVec Ideal S1x31x512 .f32) (b : Fin 4) (s : Fin 8192) (c : Fin 512) :
    @Eq EReal (val_main_v209 (F := Ideal) x2 x4 (ix3 b s c)) (tap x2 b s 29 c * x4 (ix3 0 29 c)) := by
  rw [← tap_at x2 b s 29 c ⟨29 + s.val, by omega⟩ rfl]
  unfold val_main_v209 val_main_v204 val_main_v208 val_main_v207 val_main_v206 val_main_v205
  generalize val_main_v1 (F := Ideal) x2 = z
  pointwise

/-- Tap 30 of the convolution. -/
theorem tap30 (x2 : FVec Ideal S32768x512 .f32) (x4 : FVec Ideal S1x31x512 .f32) (b : Fin 4) (s : Fin 8192) (c : Fin 512) :
    @Eq EReal (val_main_v216 (F := Ideal) x2 x4 (ix3 b s c)) (tap x2 b s 30 c * x4 (ix3 0 30 c)) := by
  rw [← tap_at x2 b s 30 c ⟨30 + s.val, by omega⟩ rfl]
  unfold val_main_v216 val_main_v211 val_main_v215 val_main_v214 val_main_v213 val_main_v212
  generalize val_main_v1 (F := Ideal) x2 = z
  pointwise

set_option maxHeartbeats 1600000 in
/-- The convolved row before its norm. -/
theorem conv_at (x2 : FVec Ideal S32768x512 .f32) (x4 : FVec Ideal S1x31x512 .f32) (x5 : FVec Ideal S1x512 .f32) (b : Fin 4) (s : Fin 8192) (c : Fin 512) :
    @Eq EReal (val_main_v221 (F := Ideal) x2 x4 x5 (ix3 b s c)) (convRow x2 x4 x5 b s c) := by
  unfold convRow conv
  pointwise [val_main_v221, val_main_v220, val_main_v219, val_main_v218, val_main_v14, val_main_v21, val_main_v28, val_main_v35, val_main_v42, val_main_v49, val_main_v56, val_main_v63, val_main_v70, val_main_v77, val_main_v84, val_main_v91, val_main_v98, val_main_v105, val_main_v112, val_main_v119, val_main_v126, val_main_v133, val_main_v140, val_main_v147, val_main_v154, val_main_v161, val_main_v168, val_main_v175, val_main_v182, val_main_v189, val_main_v196, val_main_v203, val_main_v210, val_main_v217, tap0, tap1, tap2, tap3, tap4, tap5, tap6, tap7, tap8, tap9, tap10, tap11, tap12, tap13, tap14, tap15, tap16, tap17, tap18, tap19, tap20, tap21, tap22, tap23, tap24, tap25, tap26, tap27, tap28, tap29, tap30]

set_option maxHeartbeats 1600000 in
/-- The normalised convolved row. -/
theorem normed_at (x2 : FVec Ideal S32768x512 .f32) (x4 : FVec Ideal S1x31x512 .f32) (x5 x6 x7 : FVec Ideal S1x512 .f32) (b : Fin 4) (s : Fin 8192) (c : Fin 512) :
    @Eq EReal (val_main_v245 (F := Ideal) x2 x4 x5 x6 x7 (ix3 b s c))
      (normed (convRow x2 x4 x5 b s) (fun c => x6 (ix2 0 c)) (fun c => x7 (ix2 0 c)) c) := by
  have hy := conv_at x2 x4 x5 b s
  generalize convRow x2 x4 x5 b s = y at hy ⊢
  pointwise [val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_cst, val_main_cst_0, val_main_cst_1, val_main_cst_2, val_main_cst_3, hy]
  rfl

set_option maxHeartbeats 1600000 in
/-- The gate of the convolved row. -/
theorem silu_at (x2 : FVec Ideal S32768x512 .f32) (x4 : FVec Ideal S1x31x512 .f32) (x5 x6 x7 : FVec Ideal S1x512 .f32) (b : Fin 4) (s : Fin 8192) (c : Fin 512) :
    @Eq EReal (val_main_v246 (F := Ideal) x2 x4 x5 x6 x7 (ix3 b s c))
      (silu (normed (convRow x2 x4 x5 b s) (fun c => x6 (ix2 0 c)) (fun c => x7 (ix2 0 c)) c)) := by
  have hy := normed_at x2 x4 x5 x6 x7 b s c
  generalize normed (convRow x2 x4 x5 b s) (fun c => x6 (ix2 0 c)) (fun c => x7 (ix2 0 c)) c = y at hy ⊢
  pointwise [val_main_v246, val_main_call1_v0, val_main_call1_v1, val_main_call1_v2, val_main_call1_v3, val_main_call1_v4, val_main_call1_v5, val_main_call1_cst, val_main_call1_cst_0, hy]
  rfl

set_option maxHeartbeats 1600000 in
/-- The attention's row and the convolved row side by side. -/
theorem cat_at (x1 : FVec Ideal S4x8192x512 .bf16) (x2 : FVec Ideal S32768x512 .f32) (x4 : FVec Ideal S1x31x512 .f32) (x5 x6 x7 : FVec Ideal S1x512 .f32) (b : Fin 4) (s : Fin 8192) (k : Fin 1024) :
    @Eq EReal (val_main_v248 (F := Ideal) x1 x2 x4 x5 x6 x7 (ix3 b s k))
      (cat (fun c => x1 (ix3 b s c)) (fun c => silu (normed (convRow x2 x4 x5 b s) (fun c => x6 (ix2 0 c)) (fun c => x7 (ix2 0 c)) c)) k) := by
  have hy := silu_at x2 x4 x5 x6 x7 b s
  unfold cat
  by_cases h : k.val < 512
  · rw [dif_pos h]
    pointwise [val_main_v248, val_main_v247]
    rw [dif_pos h]
  · rw [dif_neg h]
    pointwise [val_main_v248]
    rw [dif_neg h]
    exact hy _

/-- The residual plus the projection. -/
theorem hid_at (x0 : FVec Ideal S4x8192x1024 .f32) (x1 : FVec Ideal S4x8192x512 .bf16) (x2 : FVec Ideal S32768x512 .f32) (x4 : FVec Ideal S1x31x512 .f32) (x5 x6 x7 : FVec Ideal S1x512 .f32) (x8 : FVec Ideal S1x1024x1024 .f32)
    (b : Fin 4) (s : Fin 8192) (v : Fin 1024 → EReal) (hv : ∀ k, @Eq EReal (val_main_v248 (F := Ideal) x1 x2 x4 x5 x6 x7 (ix3 b s k)) (v k)) (d : Fin 1024) :
    @Eq EReal (val_main_v251 (F := Ideal) x0 x1 x2 x4 x5 x6 x7 x8 (ix3 b s d)) (hid (fun d => x0 (ix3 b s d)) v (fun k d => x8 (ix3 0 k d)) d) := by
  pointwise [val_main_v251, val_main_v250, val_main_v249, hv]
  rfl

set_option maxHeartbeats 1600000 in
/-- The normalised row that the feed-forward block reads. -/
theorem rms_at (x0 : FVec Ideal S4x8192x1024 .f32) (x1 : FVec Ideal S4x8192x512 .bf16) (x2 : FVec Ideal S32768x512 .f32) (x4 : FVec Ideal S1x31x512 .f32) (x5 x6 x7 : FVec Ideal S1x512 .f32) (x8 : FVec Ideal S1x1024x1024 .f32)
    (x9 : FVec Ideal S1x1024 .f32)
    (b : Fin 4) (s : Fin 8192) (h : Fin 1024 → EReal) (hh : ∀ d, @Eq EReal (val_main_v251 (F := Ideal) x0 x1 x2 x4 x5 x6 x7 x8 (ix3 b s d)) (h d)) (d : Fin 1024) :
    @Eq EReal (val_main_v265 (F := Ideal) x0 x1 x2 x4 x5 x6 x7 x8 x9 (ix3 b s d)) (rms h (fun d => x9 (ix2 0 d)) d) := by
  pointwise [val_main_v265, val_main_v264, val_main_v263, val_main_v262, val_main_v261, val_main_v260, val_main_v259, val_main_v258, val_main_v257, val_main_v256, val_main_v255, val_main_v254, val_main_v253, val_main_v252, val_main_cst_4, val_main_cst_5, val_main_cst_6, hh]
  rfl

set_option maxHeartbeats 1600000 in
/-- One gated unit. -/
theorem act_at (x0 : FVec Ideal S4x8192x1024 .f32) (x1 : FVec Ideal S4x8192x512 .bf16) (x2 : FVec Ideal S32768x512 .f32) (x4 : FVec Ideal S1x31x512 .f32) (x5 x6 x7 : FVec Ideal S1x512 .f32) (x8 : FVec Ideal S1x1024x1024 .f32)
    (x9 : FVec Ideal S1x1024 .f32) (x10 : FVec Ideal S1x1024x5632 .f32)
    (b : Fin 4) (s : Fin 8192) (n : Fin 1024 → EReal) (hn : ∀ d, @Eq EReal (val_main_v265 (F := Ideal) x0 x1 x2 x4 x5 x6 x7 x8 x9 (ix3 b s d)) (n d)) (j : Fin 2816) :
    @Eq EReal (val_main_v271 (F := Ideal) x0 x1 x2 x4 x5 x6 x7 x8 x9 x10 (ix3 b s j)) (act n (fun k j => x10 (ix3 0 k j)) j) := by
  pointwise [val_main_v271, val_main_v270, val_main_call2_v0, val_main_call2_v1, val_main_call2_v2, val_main_call2_v3, val_main_call2_v4, val_main_call2_v5, val_main_call2_cst, val_main_call2_cst_0, val_main_v269, val_main_v268, val_main_v267, val_main_v266, hn]
  rfl

set_option maxHeartbeats 1600000 in
/-- The residual plus the feed-forward block. -/
theorem ffn_at (x0 : FVec Ideal S4x8192x1024 .f32) (x1 : FVec Ideal S4x8192x512 .bf16) (x2 : FVec Ideal S32768x512 .f32) (x4 : FVec Ideal S1x31x512 .f32) (x5 x6 x7 : FVec Ideal S1x512 .f32) (x8 : FVec Ideal S1x1024x1024 .f32)
    (x9 : FVec Ideal S1x1024 .f32) (x10 : FVec Ideal S1x1024x5632 .f32) (x11 : FVec Ideal S1x2816x1024 .f32)
    (b : Fin 4) (s : Fin 8192) (h : Fin 1024 → EReal) (hh : ∀ d, @Eq EReal (val_main_v251 (F := Ideal) x0 x1 x2 x4 x5 x6 x7 x8 (ix3 b s d)) (h d)) (d : Fin 1024) :
    @Eq EReal (val_main_v274 (F := Ideal) x0 x1 x2 x4 x5 x6 x7 x8 x9 x10 x11 (ix3 b s d)) (ffn h (fun d => x9 (ix2 0 d)) (fun k j => x10 (ix3 0 k j)) (fun j d => x11 (ix3 0 j d)) d) := by
  have ha := act_at x0 x1 x2 x4 x5 x6 x7 x8 x9 x10 b s _ (rms_at x0 x1 x2 x4 x5 x6 x7 x8 x9 b s h hh)
  unfold ffn
  pointwise [val_main_v274, val_main_v273, val_main_v272, hh, ha]

set_option maxHeartbeats 1600000 in
/-- The residual plus the gated embedding. -/
theorem emb_at (x0 : FVec Ideal S4x8192x1024 .f32) (x1 : FVec Ideal S4x8192x512 .bf16) (x2 : FVec Ideal S32768x512 .f32) (x3 : FVec Ideal S1x4x8192x256 .f32) (x4 : FVec Ideal S1x31x512 .f32) (x5 x6 x7 : FVec Ideal S1x512 .f32) (x8 : FVec Ideal S1x1024x1024 .f32)
    (x9 : FVec Ideal S1x1024 .f32) (x10 : FVec Ideal S1x1024x5632 .f32) (x11 : FVec Ideal S1x2816x1024 .f32) (x12 : FVec Ideal S1x1024 .f32) (x13 : FVec Ideal S1x1024x1024 .f32) (x14 : FVec Ideal S1x256x1024 .f32)
    (b : Fin 4) (s : Fin 8192) (h : Fin 1024 → EReal) (hh : ∀ d, @Eq EReal (val_main_v274 (F := Ideal) x0 x1 x2 x4 x5 x6 x7 x8 x9 x10 x11 (ix3 b s d)) (h d)) (d : Fin 1024) :
    @Eq EReal (val_main_v301 (F := Ideal) x0 x1 x2 x3 x4 x5 x6 x7 x8 x9 x10 x11 x12 x13 x14 (ix3 b s d))
      (emb h (fun d => x12 (ix2 0 d)) (fun k d => x13 (ix3 0 k d)) (fun k => x3 (ix4 0 b s k)) (fun k d => x14 (ix3 0 k d)) d) := by
  have hn : ∀ d, @Eq EReal (val_main_v288 (F := Ideal) x0 x1 x2 x4 x5 x6 x7 x8 x9 x10 x11 x12 (ix3 b s d)) (rms h (fun d => x12 (ix2 0 d)) d) := fun d => by
    pointwise [val_main_v288, val_main_v287, val_main_v286, val_main_v285, val_main_v284, val_main_v283, val_main_v282, val_main_v281, val_main_v280, val_main_v279, val_main_v278, val_main_v277, val_main_v276, val_main_v275, val_main_cst_7, val_main_cst_8, val_main_cst_9, hh]
    rfl
  unfold emb
  generalize rms h (fun d => x12 (ix2 0 d)) = n at hn ⊢
  pointwise [val_main_v301, val_main_v300, val_main_v299, val_main_v298, val_main_v297, val_main_v296, val_main_v295, val_main_v294, val_main_v293, val_main_v292, val_main_v291, val_main_v290, val_main_v289, val_main_cst_10, val_main_cst_11, hh, hn]
  rfl

/-- The reference's result at a position of a sequence. -/
theorem tail_at (x0 : FVec Ideal S4x8192x1024 .f32) (x1 : FVec Ideal S4x8192x512 .bf16) (x2 : FVec Ideal S32768x512 .f32) (x3 : FVec Ideal S1x4x8192x256 .f32) (x4 : FVec Ideal S1x31x512 .f32) (x5 x6 x7 : FVec Ideal S1x512 .f32) (x8 : FVec Ideal S1x1024x1024 .f32)
    (x9 : FVec Ideal S1x1024 .f32) (x10 : FVec Ideal S1x1024x5632 .f32) (x11 : FVec Ideal S1x2816x1024 .f32) (x12 : FVec Ideal S1x1024 .f32) (x13 : FVec Ideal S1x1024x1024 .f32) (x14 : FVec Ideal S1x256x1024 .f32)
    (b : Fin 4) (s : Fin 8192) (d : Fin 1024) :
    @Eq EReal (val_main_v301 (F := Ideal) x0 x1 x2 x3 x4 x5 x6 x7 x8 x9 x10 x11 x12 x13 x14 (ix3 b s d))
      (tail x0 x1 x2 x3 x4 x5 x6 x7 x8 x9 x10 x11 x12 x13 x14 b s d) := by
  have h0 := hid_at x0 x1 x2 x4 x5 x6 x7 x8 b s _ (cat_at x1 x2 x4 x5 x6 x7 b s)
  have h1 := ffn_at x0 x1 x2 x4 x5 x6 x7 x8 x9 x10 x11 b s _ h0
  exact emb_at x0 x1 x2 x3 x4 x5 x6 x7 x8 x9 x10 x11 x12 x13 x14 b s _ h1 d

/-- The reference's result as one array of rows. -/
theorem result_at (x0 : FVec Ideal S4x8192x1024 .f32) (x1 : FVec Ideal S4x8192x512 .bf16) (x2 : FVec Ideal S32768x512 .f32) (x3 : FVec Ideal S1x4x8192x256 .f32) (x4 : FVec Ideal S1x31x512 .f32) (x5 x6 x7 : FVec Ideal S1x512 .f32) (x8 : FVec Ideal S1x1024x1024 .f32)
    (x9 : FVec Ideal S1x1024 .f32) (x10 : FVec Ideal S1x1024x5632 .f32) (x11 : FVec Ideal S1x2816x1024 .f32) (x12 : FVec Ideal S1x1024 .f32) (x13 : FVec Ideal S1x1024x1024 .f32) (x14 : FVec Ideal S1x256x1024 .f32)
    (i : Fin 32768) (d : Fin 1024) :
    @Eq EReal (val_main_v302 (F := Ideal) x0 x1 x2 x3 x4 x5 x6 x7 x8 x9 x10 x11 x12 x13 x14 (ix2 i d))
      (tail x0 x1 x2 x3 x4 x5 x6 x7 x8 x9 x10 x11 x12 x13 x14 ⟨i.val / 8192, by omega⟩ ⟨i.val % 8192, by omega⟩ d) := by
  rw [← tail_at]
  unfold val_main_v302
  generalize val_main_v301 (F := Ideal) x0 x1 x2 x3 x4 x5 x6 x7 x8 x9 x10 x11 x12 x13 x14 = z
  pointwise

end Cert.Reference3Ideal.TailRef
-- ==== Proof.TailClaims.lean ====
module

public import proofs.«01_k».proof.Defs
public import proofs.«01_k».proof.Proof.TailValue
public import proofs.«01_k».proof.Proof.TailRef
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent
public import Idealize.ShloMosaic.Adequacy
public import Idealize.ShloMosaic.Init

@[expose] public section

noncomputable section

/-! The claims about the layer's tail: convolution, output product, feed-forward part and gated embedding. -/

namespace Cert.TailClaims

open Idealize.ShloMosaic Idealize.SL.Sem Idealize.ShloMosaic.ValueKit

/-- The kernel runs and leaves its arguments. -/
theorem frame_p : Cert.quiescent_Kernel3 := fun m ρ _ => Cert.Kernel3.Gen.frame m ρ

/-- The idealized kernel runs and leaves its arguments. -/
theorem frame_pi : Cert.quiescent_Kernel3Ideal := fun m ρ _ => Cert.Kernel3Ideal.Gen.frame m ρ

/-- The reference runs and leaves its arguments. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing of the kernel is rewritten on the way to its idealized form. -/
theorem preserves : Cert.preserves_Kernel3_Kernel3Ideal := trivial

set_option maxHeartbeats 1600000 in
/-- From any arguments, kernel and reference compute the same tail. -/
theorem algebraic : Cert.algebraic_Kernel3Ideal_Reference3Ideal := by
  intro m g m' g' hpre hagree
  refine ⟨fun c => Cert.Kernel3Ideal.TailValue.tailArr (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg11)) (m (c.tc.loc Cert.Kernel3Ideal.main_arg12)) (m (c.tc.loc Cert.Kernel3Ideal.main_arg13)) (m (c.tc.loc Cert.Kernel3Ideal.main_arg14)), ?_, ?_⟩
  · refine (θ_run _ _ _).mono (fun r h c => ?_) (Cert.Kernel3Ideal.Value.run_blocks m g)
    exact ⟨(h c).1.trans (Cert.Kernel3Ideal.TailValue.final m c), (h c).2⟩
  · refine (θ_run _ _ _).mono (fun r h c => ?_) (Cert.Reference3Ideal.Value.run m' g')
    obtain ⟨a0, a1, a2, a3, a4, a5, a6, a7, a8, a9, a10, a11, a12, a13, a14⟩ := hagree c
    refine ⟨(h c).1.trans ((Cert.Reference3Ideal.Read.val_main_v302_eq _).trans ?_), (h c).2⟩
    refine Eq.trans (b := Cert.Reference3Ideal.Read.val_main_v302 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) (m' (c.tc.loc Cert.Reference3Ideal.main_arg12)) (m' (c.tc.loc Cert.Reference3Ideal.main_arg13)) (m' (c.tc.loc Cert.Reference3Ideal.main_arg14))) rfl ?_
    rw [a0, a1, a2, a3, a4, a5, a6, a7, a8, a9, a10, a11, a12, a13, a14]
    refine funext fun y => ?_
    rw [eq_ix2 y]
    exact Cert.Reference3Ideal.TailRef.result_at _ _ _ _ _ _ _ _ _ _ _ _ _ _ _ (y 0) (y 1)

end Cert.TailClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite2
public import proofs.«01_k».proof.Proof.Claims
public import proofs.«01_k».proof.Proof.ProjClaims
public import proofs.«01_k».proof.Proof.TailClaims
public import Idealize.ShloMosaic.Adequacy
public import Idealize.ShloMosaic.Init

@[expose] public section

noncomputable section

namespace Cert.Proof

open Idealize.ShloMosaic Idealize.SL.Sem

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  Cert.Pre_finite2.Gen.facts,
  AttClaims.frame_p, AttClaims.frame_pi, AttClaims.frame_pi_pre, AttClaims.frame_ri, AttClaims.frame_ri_pre,
  ProjClaims.frame_p, ProjClaims.frame_pi, ProjClaims.frame_pi_pre, ProjClaims.frame_ri, ProjClaims.frame_ri_pre,
  TailClaims.frame_p, TailClaims.frame_pi, TailClaims.frame_ri,
  AttClaims.preserves, AttClaims.algebraic, ProjClaims.preserves, ProjClaims.algebraic, TailClaims.preserves, TailClaims.algebraic⟩

end Cert.Proof

end
